-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32x128 : Shape := ⟨2, ![32, 128]⟩
abbrev S1x128 : Shape := ⟨2, ![1, 128]⟩
abbrev S128 : Shape := ⟨1, ![128]⟩
abbrev S128x128 : Shape := ⟨2, ![128, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x128 .f32) (main_arg1 : FVec F S1x128 .f32) (main_arg2 : FVec F S128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128 .f32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_cst_2 : FVec F S_ .f32 := constant S_ .f32 0x00000000#32
  let main_v9 : FVec F S128 .f32 := broadcastInDim S128 ![] bcast_S_S128 main_cst_2
  let main_v10 : IVec S128 1 := cmpf .une main_arg5 main_v9
  let main_c_3 : IVec S_ 1 := constantI S_ 1 0#1
  let main_v11 : IVec S_ 1 := (fun x v => Host.reduce IntOp.ori x v reducesTo_S128_S_d0 h_S_) main_v10 main_c_3
  let main_v12 : IVec S_ 1 := andi main_v8 main_v11
  let main_cst_4 : FVec F S_ .f32 := constant S_ .f32 0x00000000#32
  let main_v13 : FVec F S128 .f32 := broadcastInDim S128 ![] bcast_S_S128 main_cst_4
  let main_v14 : IVec S128 1 := cmpf .une main_arg10 main_v13
  let main_c_5 : IVec S_ 1 := constantI S_ 1 0#1
  let main_v15 : IVec S_ 1 := (fun x v => Host.reduce IntOp.ori x v reducesTo_S128_S_d0 h_S_) main_v14 main_c_5
  fn_part1 (F := F) main_v12 main_v15
-- ==== Kernel.lean ====
abbrev S32x128 : Shape := ⟨2, ![32, 128]⟩
abbrev S1x128 : Shape := ⟨2, ![1, 128]⟩
abbrev S128 : Shape := ⟨1, ![128]⟩
abbrev S128x128 : Shape := ⟨2, ![128, 128]⟩
abbrev S32 : Shape := ⟨1, ![32]⟩
abbrev S32x1 : Shape := ⟨2, ![32, 1]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 20
  | .vmem => 12
  | .smem => 0
  | _ => 0

abbrev bufTy : (tb : Table) → Fin (tcTables nBuf tb) → BufTy
  | .hbm, ⟨0, _⟩ => ⟨S32x128, .f32⟩
  | .hbm, ⟨1, _⟩ => ⟨S1x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S32x128, .f32⟩
  | .local _ .vmem, ⟨0, _⟩ => ⟨S32x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S32x128 : Shape := ⟨2, ![32, 128]⟩
abbrev S1x128 : Shape := ⟨2, ![1, 128]⟩
abbrev S128 : Shape := ⟨1, ![128]⟩
abbrev S128x128 : Shape := ⟨2, ![128, 128]⟩
abbrev S4096x1 : Shape := ⟨2, ![4096, 1]⟩
abbrev S32x128x127 : Shape := ⟨3, ![32, 128, 127]⟩
abbrev S_ : Shape := ⟨0, ![]⟩
abbrev S520192 : Shape := ⟨1, ![520192]⟩
abbrev S4096x128 : Shape := ⟨2, ![4096, 128]⟩
abbrev S4096 : Shape := ⟨1, ![4096]⟩
abbrev S524288 : Shape := ⟨1, ![524288]⟩
abbrev S524288x1 : Shape := ⟨2, ![524288, 1]⟩
abbrev S524288x128 : Shape := ⟨2, ![524288, 128]⟩
abbrev S32x64 : Shape := ⟨2, ![32, 64]⟩
abbrev S32 : Shape := ⟨1, ![32]⟩
abbrev S32x1 : Shape := ⟨2, ![32, 1]⟩
abbrev S2048 : Shape := ⟨1, ![2048]⟩
abbrev S2048x1 : Shape := ⟨2, ![2048, 1]⟩
abbrev S2048x128 : Shape := ⟨2, ![2048, 128]⟩
abbrev S32x64x63 : Shape := ⟨3, ![32, 64, 63]⟩
abbrev S129024 : Shape := ⟨1, ![129024]⟩
abbrev S131072 : Shape := ⟨1, ![131072]⟩
abbrev S131072x1 : Shape := ⟨2, ![131072, 1]⟩
abbrev S131072x128 : Shape := ⟨2, ![131072, 128]⟩
abbrev S32x32 : Shape := ⟨2, ![32, 32]⟩
abbrev S1024 : Shape := ⟨1, ![1024]⟩
abbrev S1024x1 : Shape := ⟨2, ![1024, 1]⟩
abbrev S1024x128 : Shape := ⟨2, ![1024, 128]⟩
abbrev S32x32x128 : Shape := ⟨3, ![32, 32, 128]⟩

abbrev nBuf : Space → Nat
  | .hbm => 247
  | .vmem => 0
  | .smem => 0
  | _ => 0

abbrev hbmTy0_0 (i : Nat) : BufTy := match i % 128 with
  | 0 => ⟨S32x128, .f32⟩
  | 1 => ⟨S1x128, .f32⟩
  | 2 => ⟨S128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S4096x1, .f32⟩
  | 12 => ⟨S32x128x127, .i32⟩
  | 13 => ⟨S32x128x127, .i32⟩
  | 14 => ⟨S32x128x127, .i32⟩
  | 15 => ⟨S_, .i32⟩
  | 16 => ⟨S32x128x127, .i32⟩
  | 17 => ⟨S32x128x127, .i32⟩
  | 18 => ⟨S32x128x127, .i32⟩
  | 19 => ⟨S_, .i32⟩
  | 20 => ⟨S32x128x127, .i32⟩
  | 21 => ⟨S32x128x127, .i32⟩
  | 22 => ⟨S32x128x127, .i1⟩
  | 23 => ⟨S_, .i32⟩
  | 24 => ⟨S32x128x127, .i32⟩
  | 25 => ⟨S32x128x127, .i32⟩
  | 26 => ⟨S32x128x127, .i32⟩
  | 27 => ⟨S32x128x127, .i32⟩
  | 28 => ⟨S520192, .i32⟩
  | 29 => ⟨S520192, .i32⟩
  | 30 => ⟨S4096x128, .f32⟩
  | 31 => ⟨S4096, .i32⟩
  | 32 => ⟨S524288, .i32⟩
  | 33 => ⟨S524288, .i32⟩
  | 34 => ⟨S_, .f32⟩
  | 35 => ⟨S524288, .f32⟩
  | 36 => ⟨S_, .f32⟩
  | 37 => ⟨S4096, .f32⟩
  | 38 => ⟨S524288x1, .i32⟩
  | 39 => ⟨S4096, .f32⟩
  | 40 => ⟨S4096, .f32⟩
  | 41 => ⟨S_, .i32⟩
  | 42 => ⟨S524288, .i32⟩
  | 43 => ⟨S524288, .i1⟩
  | 44 => ⟨S_, .i32⟩
  | 45 => ⟨S524288, .i32⟩
  | 46 => ⟨S524288, .i32⟩
  | 47 => ⟨S524288, .i32⟩
  | 48 => ⟨S524288x1, .i32⟩
  | 49 => ⟨S524288, .f32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S524288, .f32⟩
  | 59 => ⟨S524288, .f32⟩
  | 60 => ⟨S_, .i32⟩
  | 61 => ⟨S524288, .i32⟩
  | 62 => ⟨S524288, .i1⟩
  | 63 => ⟨S_, .i32⟩
  | 64 => ⟨S524288, .i32⟩
  | 65 => ⟨S524288, .i32⟩
  | 66 => ⟨S524288, .i32⟩
  | 67 => ⟨S524288x1, .i32⟩
  | 68 => ⟨S524288x128, .f32⟩
  | 69 => ⟨S524288x1, .f32⟩
  | 70 => ⟨S524288x128, .f32⟩
  | 71 => ⟨S524288x128, .f32⟩
  | 72 => ⟨S_, .f32⟩
  | 73 => ⟨S4096x128, .f32⟩
  | 74 => ⟨S524288x1, .i32⟩
  | 75 => ⟨S4096x128, .f32⟩
  | 76 => ⟨S1x128, .f32⟩
  | 77 => ⟨S4096x128, .f32⟩
  | 78 => ⟨S4096x128, .f32⟩
  | 79 => ⟨S_, .f32⟩
  | 80 => ⟨S4096x128, .f32⟩
  | 81 => ⟨S4096x128, .f32⟩
  | 82 => ⟨S_, .f32⟩
  | 83 => ⟨S4096x128, .f32⟩
  | 84 => ⟨S4096x128, .f32⟩
  | 85 => ⟨S_, .f32⟩
  | 86 => ⟨S_, .f32⟩
  | 87 => ⟨S_, .f32⟩
  | 88 => ⟨S4096x128, .f32⟩
  | 89 => ⟨S4096x128, .f32⟩
  | 90 => ⟨S1x128, .f32⟩
  | 91 => ⟨S4096x128, .f32⟩
  | 92 => ⟨S4096x128, .f32⟩
  | 93 => ⟨S1x128, .f32⟩
  | 94 => ⟨S4096x128, .f32⟩
  | 95 => ⟨S4096x128, .f32⟩
  | 96 => ⟨S4096, .f32⟩
  | 97 => ⟨S128, .f32⟩
  | 98 => ⟨S_, .f32⟩
  | 99 => ⟨S_, .f32⟩
  | 100 => ⟨S_, .f32⟩
  | 101 => ⟨S4096, .f32⟩
  | 102 => ⟨S4096, .f32⟩
  | 103 => ⟨S32x128, .f32⟩
  | 104 => ⟨S32x64, .f32⟩
  | 105 => ⟨S32x64, .i32⟩
  | 106 => ⟨S32, .i32⟩
  | 107 => ⟨S_, .i32⟩
  | 108 => ⟨S32, .i32⟩
  | 109 => ⟨S32, .i32⟩
  | 110 => ⟨S32x1, .i32⟩
  | 111 => ⟨S32x64, .i32⟩
  | 112 => ⟨S32x64, .i32⟩
  | 113 => ⟨S2048, .i32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S2048, .i32⟩
  | 121 => ⟨S2048x1, .i32⟩
  | 122 => ⟨S2048x128, .f32⟩
  | 123 => ⟨S2048, .f32⟩
  | 124 => ⟨S2048, .f32⟩
  | 125 => ⟨S2048x1, .f32⟩
  | 126 => ⟨S2048x128, .f32⟩
  | 127 => ⟨S2048x128, .f32⟩
  | _ => ⟨S32x128, .f32⟩

abbrev hbmTy0_1 (i : Nat) : BufTy := match i % 128 with
  | 0 => ⟨S32x64x63, .i32⟩
  | 1 => ⟨S32x64x63, .i32⟩
  | 2 => ⟨S32x64x63, .i32⟩
  | 3 => ⟨S_, .i32⟩
  | 4 => ⟨S32x64x63, .i32⟩
  | 5 => ⟨S32x64x63, .i32⟩
  | 6 => ⟨S32x64x63, .i32⟩
  | 7 => ⟨S_, .i32⟩
  | 8 => ⟨S32x64x63, .i32⟩
  | 9 => ⟨S32x64x63, .i32⟩
  | 10 => ⟨S32x64x63, .i1⟩
  | 11 => ⟨S_, .i32⟩
  | 12 => ⟨S32x64x63, .i32⟩
  | 13 => ⟨S32x64x63, .i32⟩
  | 14 => ⟨S32x64x63, .i32⟩
  | 15 => ⟨S32x64x63, .i32⟩
  | 16 => ⟨S129024, .i32⟩
  | 17 => ⟨S129024, .i32⟩
  | 18 => ⟨S2048x128, .f32⟩
  | 19 => ⟨S2048, .i32⟩
  | 20 => ⟨S131072, .i32⟩
  | 21 => ⟨S131072, .i32⟩
  | 22 => ⟨S_, .f32⟩
  | 23 => ⟨S131072, .f32⟩
  | 24 => ⟨S_, .f32⟩
  | 25 => ⟨S2048, .f32⟩
  | 26 => ⟨S131072x1, .i32⟩
  | 27 => ⟨S2048, .f32⟩
  | 28 => ⟨S2048, .f32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072, .f32⟩
  | 47 => ⟨S131072, .f32⟩
  | 48 => ⟨S_, .i32⟩
  | 49 => ⟨S131072, .i32⟩
  | 50 => ⟨S131072, .i1⟩
  | 51 => ⟨S_, .i32⟩
  | 52 => ⟨S131072, .i32⟩
  | 53 => ⟨S131072, .i32⟩
  | 54 => ⟨S131072, .i32⟩
  | 55 => ⟨S131072x1, .i32⟩
  | 56 => ⟨S131072x128, .f32⟩
  | 57 => ⟨S131072x1, .f32⟩
  | 58 => ⟨S131072x128, .f32⟩
  | 59 => ⟨S131072x128, .f32⟩
  | 60 => ⟨S_, .f32⟩
  | 61 => ⟨S2048x128, .f32⟩
  | 62 => ⟨S131072x1, .i32⟩
  | 63 => ⟨S2048x128, .f32⟩
  | 64 => ⟨S1x128, .f32⟩
  | 65 => ⟨S2048x128, .f32⟩
  | 66 => ⟨S2048x128, .f32⟩
  | 67 => ⟨S_, .f32⟩
  | 68 => ⟨S2048x128, .f32⟩
  | 69 => ⟨S2048x128, .f32⟩
  | 70 => ⟨S_, .f32⟩
  | 71 => ⟨S2048x128, .f32⟩
  | 72 => ⟨S2048x128, .f32⟩
  | 73 => ⟨S_, .f32⟩
  | 74 => ⟨S_, .f32⟩
  | 75 => ⟨S_, .f32⟩
  | 76 => ⟨S2048x128, .f32⟩
  | 77 => ⟨S2048x128, .f32⟩
  | 78 => ⟨S1x128, .f32⟩
  | 79 => ⟨S2048x128, .f32⟩
  | 80 => ⟨S2048x128, .f32⟩
  | 81 => ⟨S1x128, .f32⟩
  | 82 => ⟨S2048x128, .f32⟩
  | 83 => ⟨S2048x128, .f32⟩
  | 84 => ⟨S2048, .f32⟩
  | 85 => ⟨S128, .f32⟩
  | 86 => ⟨S_, .f32⟩
  | 87 => ⟨S_, .f32⟩
  | 88 => ⟨S_, .f32⟩
  | 89 => ⟨S2048, .f32⟩
  | 90 => ⟨S2048, .f32⟩
  | 91 => ⟨S32x64, .f32⟩
  | 92 => ⟨S32x32, .f32⟩
  | 93 => ⟨S32x32, .i32⟩
  | 94 => ⟨S32, .i32⟩
  | 95 => ⟨S_, .i32⟩
  | 96 => ⟨S32, .i32⟩
  | 97 => ⟨S32, .i32⟩
  | 98 => ⟨S32x1, .i32⟩
  | 99 => ⟨S32x32, .i32⟩
  | 100 => ⟨S32x32, .i32⟩
  | 101 => ⟨S1024, .i32⟩
  | 102 => ⟨S_, .i32⟩
  | 103 => ⟨S1024, .i32⟩
  | 104 => ⟨S1024, .i1⟩
  | 105 => ⟨S_, .i32⟩
  | 106 => ⟨S1024, .i32⟩
  | 107 => ⟨S1024, .i32⟩
  | 108 => ⟨S1024, .i32⟩
  | 109 => ⟨S1024x1, .i32⟩
  | 110 => ⟨S1024x128, .f32⟩
  | 111 => ⟨S1024, .f32⟩
  | 112 => ⟨S1024, .f32⟩
  | 113 => ⟨S1024x1, .f32⟩
  | 114 => ⟨S1024x128, .f32⟩
  | 115 => ⟨S1024x128, .f32⟩
  | 116 => ⟨S32x32x128, .f32⟩
  | 117 => ⟨S_, .f32⟩
  | 118 => ⟨S32x128, .f32⟩
  | _ => ⟨S32x128, .f32⟩

abbrev hbmTy (i : Nat) : BufTy := match i / 128 with
  | 0 => hbmTy0_0 i
  | 1 => hbmTy0_1 i
  | _ => ⟨S32x128, .f32⟩

abbrev bufTy : (tb : Table) → Fin (tcTables nBuf tb) → BufTy
  | .hbm, ⟨i, _⟩ => hbmTy i
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_values : Ref sig .tc := ⟨.hbm, 104, rfl⟩
abbrev main_indices : Ref sig .tc := ⟨.hbm, 105, rfl⟩
abbrev main_v74 : Ref sig .tc := ⟨.hbm, 106, rfl⟩
abbrev main_c_12 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_13 : Ref sig .tc := ⟨.hbm, 114, rfl⟩
abbrev main_v81 : Ref sig .tc := ⟨.hbm, 115, rfl⟩
abbrev main_v82 : Ref sig .tc := ⟨.hbm, 116, rfl⟩
abbrev main_c_14 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_15 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_16 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_17 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_18 : Ref sig .tc := ⟨.hbm, 150, rfl⟩
abbrev main_v112 : Ref sig .tc := ⟨.hbm, 151, rfl⟩
abbrev main_cst_19 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_20 : Ref sig .tc := ⟨.hbm, 157, rfl⟩
abbrev main_v117 : Ref sig .tc := ⟨.hbm, 158, rfl⟩
abbrev main_v118 : Ref sig .tc := ⟨.hbm, 159, rfl⟩
abbrev main_c_21 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_c_22 : Ref sig .tc := ⟨.hbm, 166, rfl⟩
abbrev main_v124 : Ref sig .tc := ⟨.hbm, 167, rfl⟩
abbrev main_v125 : Ref sig .tc := ⟨.hbm, 168, rfl⟩
abbrev main_c_23 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_24 : Ref sig .tc := ⟨.hbm, 176, rfl⟩
abbrev main_v132 : Ref sig .tc := ⟨.hbm, 177, rfl⟩
abbrev main_v133 : Ref sig .tc := ⟨.hbm, 178, rfl⟩
abbrev main_c_25 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_26 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_call4_cst : Ref sig .tc := ⟨.hbm, 195, rfl⟩
abbrev main_call4_v0 : Ref sig .tc := ⟨.hbm, 196, rfl⟩
abbrev main_v148 : Ref sig .tc := ⟨.hbm, 197, rfl⟩
abbrev main_cst_27 : Ref sig .tc := ⟨.hbm, 198, rfl⟩
abbrev main_v149 : Ref sig .tc := ⟨.hbm, 199, rfl⟩
abbrev main_v150 : Ref sig .tc := ⟨.hbm, 200, rfl⟩
abbrev main_cst_28 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_call5_v0 : Ref sig .tc := ⟨.hbm, 213, rfl⟩
abbrev main_call5_cst : Ref sig .tc := ⟨.hbm, 214, rfl⟩
abbrev main_call5_v1 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_values_29 : Ref sig .tc := ⟨.hbm, 220, rfl⟩
abbrev main_indices_30 : Ref sig .tc := ⟨.hbm, 221, rfl⟩
abbrev main_v166 : Ref sig .tc := ⟨.hbm, 222, rfl⟩
abbrev main_c_31 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_c_32 : Ref sig .tc := ⟨.hbm, 230, rfl⟩
abbrev main_v173 : Ref sig .tc := ⟨.hbm, 231, rfl⟩
abbrev main_v174 : Ref sig .tc := ⟨.hbm, 232, rfl⟩
abbrev main_c_33 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_34 : Ref sig .tc := ⟨.hbm, 245, rfl⟩
abbrev main_v186 : Ref sig .tc := ⟨.hbm, 246, rfl⟩

abbrev nD : Nat := 1
abbrev τ : Topo := Topo.v7x

variable {F : FTy → Type} [FloatOps F]
-- ==== Proof.Consts.lean ====
/- The float constants of the two programs, as the extended reals they denote. -/
module

public import Idealize.ShloMosaic.PureOps.Ideal.Laws

@[expose] public section

noncomputable section

namespace Cert.Gcn

open Idealize.ShloMosaic

/-- The number of nodes of a graph, as the kernel writes it. -/
theorem ofBits_128 : Ideal.ofBits .f32 0x43000000#32 = ((128 : ℝ) : EReal) := by
  simp [Ideal.ofBits, Ideal.ieee, -EReal.coe_mul]; norm_num

/-- The bound that finite inputs stay below. -/
theorem ofBits_inf : Ideal.ofBits .f32 0x7F800000#32 = ⊤ := by
  simp [Ideal.ofBits, Ideal.ieee]

/-- The start of a maximum. -/
theorem ofBits_neg_inf : Ideal.ofBits .f32 0xFF800000#32 = ⊥ := by
  simp [Ideal.ofBits, Ideal.ieee]

/-- The batch norm's variance plus its small constant is a positive real. -/
theorem ofBits_variance : ∃ r : ℝ, 0 < r ∧ Ideal.ofBits .f32 0x3F800054#32 = (r : EReal) := by
  simp only [Ideal.ofBits, Ideal.ieee]
  refine ⟨_, ?_, rfl⟩
  rw [if_neg (by decide)]
  positivity

end Cert.Gcn

end

end
-- ==== Proof.Scatter.lean ====
/- A segment sum (a float scatter that adds, one index word per update or per row of updates) and a gather, read at
   an index, at any extents. -/
module

public import Idealize.ShloMosaic.PureOps.Ideal.Laws
public import Idealize.ShloMosaic.Lib.Routing.Ops
public import Idealize.ShloMosaic.Lib.Routing.OpsPair
public import Idealize.ShloMosaic.Lib.Routing.OpsSet

@[expose] public section

noncomputable section

namespace Cert.Gcn

open Idealize.ShloMosaic Idealize.ShloMosaic.Routing Idealize.ShloMosaic.ValueIdx

/-- The dimension numbers of a segment sum of `E` scalars into `N` segments. -/
abbrev segDims (N E : ℕ) (wf : ScatterDims.WF (shape1 N) (shape2 E 1) (shape1 E) [] [0] [0] 1) :
    ScatterDims (shape1 N) (shape2 E 1) (shape1 E) where
  updateWindowDims := []
  insertedWindowDims := [0]
  scatterDimsToOperandDims := [0]
  indexVectorDim := 1
  wf := wf

/-- The dimension numbers of a segment sum of `E` rows of `C` entries into `N` segments. -/
abbrev segRowDims (N C E : ℕ) (wf : ScatterDims.WF (shape2 N C) (shape2 E 1) (shape2 E C) [1] [0] [0] 1) :
    ScatterDims (shape2 N C) (shape2 E 1) (shape2 E C) where
  updateWindowDims := [1]
  insertedWindowDims := [0]
  scatterDimsToOperandDims := [0]
  indexVectorDim := 1
  wf := wf

/-- Scalar `e` goes to segment `t` exactly when its index word, read signed, is `t`. -/
theorem seg_lands {N E : ℕ} (wf : ScatterDims.WF (shape1 N) (shape2 E 1) (shape1 E) [] [0] [0] 1) (idx : IVec (shape2 E 1) 32)
    (e : Fin E) (t : Fin N) :
    (segDims N E wf).resultIdx? (ix1 e) idx = some (ix1 t) ↔ (idx (ix2 e (0 : Fin 1))).toInt = (t.val : Int) := by
  have hwin : (segDims N E wf).window (ix1 e) 0 = 0 := by
    unfold ScatterDims.window
    rw [dif_neg fun h => (of_decide_eq_true (List.mem_filter.1 h).2) (List.mem_singleton.2 rfl)]
  have hstart : (segDims N E wf).start (ix1 e) idx 0 = (idx (ix2 e (0 : Fin 1))).toInt := by
    unfold ScatterDims.start
    rw [dif_pos (show (0 : Fin 1) ∈ (segDims N E wf).scatterDimsToOperandDims from List.mem_singleton.2 rfl)]
    refine congrArg (fun z => (idx z).toInt) (funext fun b => Fin.ext ?_)
    match b with
    | ⟨0, _⟩ => rfl
    | ⟨1, _⟩ => rfl
  rw [resultIdx?_ix1, hstart, hwin]
  omega

/-- Entry `c'` of row `e` goes to entry `c` of segment `t` exactly when the row's index word, read signed, is `t`, and
    the entry is the same. -/
theorem segRow_lands {N C E : ℕ} (wf : ScatterDims.WF (shape2 N C) (shape2 E 1) (shape2 E C) [1] [0] [0] 1) (idx : IVec (shape2 E 1) 32)
    (e : Fin E) (c' : Fin C) (t : Fin N) (c : Fin C) :
    (segRowDims N C E wf).resultIdx? (ix2 e c') idx = some (ix2 t c) ↔ (idx (ix2 e (0 : Fin 1))).toInt = (t.val : Int) ∧ c' = c := by
  have hwin0 : (segRowDims N C E wf).window (ix2 e c') 0 = 0 := by
    unfold ScatterDims.window
    rw [dif_neg fun h => (of_decide_eq_true (List.mem_filter.1 h).2) (List.mem_singleton.2 rfl)]
  have hwin1 : (segRowDims N C E wf).window (ix2 e c') 1 = c'.val := by
    unfold ScatterDims.window
    rw [dif_pos (show (1 : Fin 2) ∈ (segRowDims N C E wf).sKept from List.mem_singleton.2 rfl)]
    rfl
  have hstart0 : (segRowDims N C E wf).start (ix2 e c') idx 0 = (idx (ix2 e (0 : Fin 1))).toInt := by
    unfold ScatterDims.start
    rw [dif_pos (show (0 : Fin 2) ∈ (segRowDims N C E wf).scatterDimsToOperandDims from List.mem_singleton.2 rfl)]
    refine congrArg (fun z => (idx z).toInt) (funext fun b => Fin.ext ?_)
    match b with
    | ⟨0, _⟩ => rfl
    | ⟨1, _⟩ => rfl
  have hstart1 : (segRowDims N C E wf).start (ix2 e c') idx 1 = 0 := by
    unfold ScatterDims.start
    rw [dif_neg]
    simp
  rw [resultIdx?_ix2, hstart0, hwin0, hstart1, hwin1, Fin.ext_iff]
  omega

/-- A SEGMENT SUM OF SCALARS whose index words hold the numbers `g e`: entry `t` is what was there and the sum of the
    scalars `e` with `g e = t`. -/
theorem segSum_apply {N E : ℕ} (wf : ScatterDims.WF (shape1 N) (shape2 E 1) (shape1 E) [] [0] [0] 1)
    (x : (shape1 N).Idx → EReal) (idx : IVec (shape2 E 1) 32) (upd : (shape1 E).Idx → EReal) (g : ℕ → ℕ)
    (hidx : ∀ e : Fin E, idx (ix2 e (0 : Fin 1)) = BitVec.ofNat 32 (g e.val)) (hg : ∀ e : Fin E, g e.val < 2 ^ 31) (t : Fin N) :
    Ideal.hostScatterAdd (segDims N E wf) x idx upd (ix1 t)
      = x (ix1 t) + ∑ e ∈ Finset.univ.filter (fun e : Fin E => g e.val = t.val), upd (ix1 e) := by
  have hl : ∀ e : Fin E, (segDims N E wf).resultIdx? (ix1 e) idx = some (ix1 t) ↔ g e.val = t.val := fun e => by
    rw [seg_lands, hidx, StableHlo.Predicate.toInt_ofNat_small _ (hg e)]; omega
  unfold Ideal.hostScatterAdd
  refine congrArg (x (ix1 t) + ·) (Finset.sum_bij' (fun j _ => j 0) (fun e _ => ix1 e) ?_ ?_ ?_ ?_ ?_)
  · intro j hj
    have hj' := (Finset.mem_filter.1 hj).2
    rw [eq_ix1 j] at hj'
    exact Finset.mem_filter.2 ⟨Finset.mem_univ _, (hl _).1 hj'⟩
  · intro e he
    exact Finset.mem_filter.2 ⟨Finset.mem_univ _, (hl _).2 (Finset.mem_filter.1 he).2⟩
  · intro j _; exact (eq_ix1 j).symm
  · intro e _; rfl
  · intro j _; exact congrArg upd (eq_ix1 j)

/-- A SEGMENT SUM OF ROWS whose index words hold the numbers `g e`: entry `(t, c)` is what was there and the sum over
    the rows `e` with `g e = t` of their entries `c`. -/
theorem segRowSum_apply {N C E : ℕ} (wf : ScatterDims.WF (shape2 N C) (shape2 E 1) (shape2 E C) [1] [0] [0] 1)
    (x : (shape2 N C).Idx → EReal) (idx : IVec (shape2 E 1) 32) (upd : (shape2 E C).Idx → EReal) (g : ℕ → ℕ)
    (hidx : ∀ e : Fin E, idx (ix2 e (0 : Fin 1)) = BitVec.ofNat 32 (g e.val)) (hg : ∀ e : Fin E, g e.val < 2 ^ 31) (t : Fin N) (c : Fin C) :
    Ideal.hostScatterAdd (segRowDims N C E wf) x idx upd (ix2 t c)
      = x (ix2 t c) + ∑ e ∈ Finset.univ.filter (fun e : Fin E => g e.val = t.val), upd (ix2 e c) := by
  have hl : ∀ (e : Fin E) (c' : Fin C), (segRowDims N C E wf).resultIdx? (ix2 e c') idx = some (ix2 t c) ↔ g e.val = t.val ∧ c' = c := fun e c' => by
    rw [segRow_lands, hidx, StableHlo.Predicate.toInt_ofNat_small _ (hg e)]; omega
  unfold Ideal.hostScatterAdd
  refine congrArg (x (ix2 t c) + ·) (Finset.sum_bij' (fun j _ => j 0) (fun e _ => ix2 e c) ?_ ?_ ?_ ?_ ?_)
  · intro j hj
    have hj' := (Finset.mem_filter.1 hj).2
    rw [eq_ix2 j] at hj'
    exact Finset.mem_filter.2 ⟨Finset.mem_univ _, ((hl _ _).1 hj').1⟩
  · intro e he
    exact Finset.mem_filter.2 ⟨Finset.mem_univ _, (hl _ _).2 ⟨(Finset.mem_filter.1 he).2, rfl⟩⟩
  · intro j hj
    have hj' := (Finset.mem_filter.1 hj).2
    rw [eq_ix2 j] at hj'
    have h1 := ((hl _ _).1 hj').2
    rw [← h1]
    exact (eq_ix2 j).symm
  · intro e _; rfl
  · intro j hj
    have hj' := (Finset.mem_filter.1 hj).2
    rw [eq_ix2 j] at hj'
    have h1 := ((hl _ _).1 hj').2
    rw [← h1]
    exact congrArg upd (eq_ix2 j)

end Cert.Gcn

end

end
-- ==== Proof.Edges.lean ====
/- The edge list of a batch of complete graphs with self loops, as numbers, and the one fact about it that the
   layers use: the sources of the edges into a node are exactly the nodes of its graph, each once. -/
module

public import Mathlib.Algebra.BigOperators.Fin
public import Mathlib.Logic.Equiv.Fin.Basic
public import Mathlib.Algebra.BigOperators.Ring.Finset

@[expose] public section

namespace Cert.Gcn

open Finset

/-- The `j`-th number other than `i`. -/
def skip (i j : ℕ) : ℕ := if j < i then j else j + 1

/-- The source of edge `e`: of the `A` edges between different nodes, source by source with `m` edges each, the
    quotient by `m`; of the self loops behind them, the node itself. -/
def srcOf (m A e : ℕ) : ℕ := if e < A then e / m else e - A

/-- The target of edge `e`: among the `n` nodes of the source's graph, the `e % m`-th one other than the source;
    of a self loop, the node itself. -/
def dstOf (n m A e : ℕ) : ℕ := if e < A then e / m / n * n + skip (e / m % n) (e % m) else e - A

/-- Among `m` numbers `j`, one has `skip i j = t` when `t` is a number up to `m` other than `i`, none when `t = i`. -/
theorem sum_skip {M : Type*} [AddCommMonoid M] (m i t : ℕ) (hi : i ≤ m) (ht : t ≤ m) (a : M) :
    (∑ j : Fin m, if skip i j.val = t then a else 0) = if i = t then 0 else a := by
  by_cases h : i = t
  · rw [if_pos h]
    refine Finset.sum_eq_zero fun j _ => if_neg ?_
    unfold skip
    split <;> omega
  · rw [if_neg h]
    have hj : (if t < i then t else t - 1) < m := by split <;> omega
    rw [Finset.sum_eq_single (⟨_, hj⟩ : Fin m)]
    · refine if_pos ?_
      unfold skip
      dsimp only
      split_ifs <;> omega
    · intro j _ hne
      refine if_neg fun e => hne (Fin.ext ?_)
      unfold skip at e
      dsimp only
      split_ifs at e ⊢ <;> omega
    · exact fun hn => absurd (Finset.mem_univ _) hn

/-- The sum over a batch of graphs of what lies in node `t`'s graph is the sum over that graph's nodes. -/
theorem sum_same_graph {M : Type*} [AddCommMonoid M] (G n t : ℕ) (ht : t < G * n) (f : ℕ → M) :
    (∑ q : Fin (G * n), if q.val / n = t / n then f q.val else 0) = ∑ s : Fin n, f (t / n * n + s.val) := by
  have hn : 0 < n := Nat.pos_of_ne_zero fun h => by rw [h] at ht; omega
  have hg : t / n < G := Nat.div_lt_of_lt_mul (by rw [Nat.mul_comm]; exact ht)
  rw [← (finProdFinEquiv (m := G) (n := n)).sum_comp, Fintype.sum_prod_type]
  rw [Finset.sum_eq_single (⟨t / n, hg⟩ : Fin G)]
  · refine Finset.sum_congr rfl fun s _ => ?_
    have hs := s.isLt
    have e : (finProdFinEquiv ((⟨t / n, hg⟩ : Fin G), s)).val = t / n * n + s.val := by
      rw [finProdFinEquiv_apply_val]; dsimp only; rw [Nat.mul_comm, Nat.add_comm]
    rw [e, if_pos]
    rw [Nat.mul_comm, Nat.mul_add_div hn, Nat.div_eq_of_lt hs, Nat.add_zero]
  · intro g _ hne
    refine Finset.sum_eq_zero fun s _ => if_neg fun e => hne (Fin.ext ?_)
    have hs := s.isLt
    rw [finProdFinEquiv_apply_val] at e
    dsimp only at e
    rw [Nat.add_comm, Nat.mul_add_div hn, Nat.div_eq_of_lt hs, Nat.add_zero] at e
    exact e
  · exact fun h => absurd (Finset.mem_univ _) h

/-- An edge between different nodes, numbered by its source `q` and its place `j` among the source's edges. -/
theorem dstOf_edge (n m A Q q j : ℕ) (hA : A = Q * m) (hq : q < Q) (hj : j < m) :
    j + m * q < A ∧ (j + m * q) / m = q ∧ (j + m * q) % m = j := by
  have hm : 0 < m := by omega
  refine ⟨?_, ?_, ?_⟩
  · subst hA
    calc j + m * q < m + m * q := by omega
      _ = m * (q + 1) := by rw [Nat.mul_add, Nat.mul_one, Nat.add_comm]
      _ ≤ m * Q := Nat.mul_le_mul_left _ hq
      _ = Q * m := Nat.mul_comm _ _
  · rw [Nat.add_mul_div_left _ _ hm, Nat.div_eq_of_lt hj, Nat.zero_add]
  · rw [Nat.add_mul_mod_self_left, Nat.mod_eq_of_lt hj]

/-- THE EDGES INTO A NODE. Over the edges of `G` complete graphs of `n = m + 1` nodes with self loops, the sum of a
    function of the source over the edges into node `t` is the sum of the function over the nodes of `t`'s graph. -/
theorem sum_edges_into {M : Type*} [AddCommMonoid M] (G n m A Q E t : ℕ) (hn : n = m + 1) (hQ : Q = G * n) (hA : A = Q * m)
    (hE : E = A + Q) (ht : t < Q) (f : ℕ → M) :
    (∑ e ∈ univ.filter (fun e : Fin E => dstOf n m A e.val = t), f (srcOf m A e.val)) = ∑ s : Fin n, f (t / n * n + s.val) := by
  have hn0 : 0 < n := by omega
  rw [Finset.sum_filter]
  subst hE
  rw [Fin.sum_univ_add]
  have hloop : (∑ r : Fin Q, if dstOf n m A (Fin.natAdd A r).val = t then f (srcOf m A (Fin.natAdd A r).val) else 0) = f t := by
    rw [Finset.sum_eq_single (⟨t, ht⟩ : Fin Q)]
    · have h1 : dstOf n m A (A + t) = t := by
        unfold dstOf; rw [if_neg (by omega)]; omega
      have h2 : srcOf m A (A + t) = t := by
        unfold srcOf; rw [if_neg (by omega)]; omega
      rw [Fin.val_natAdd, h1, h2, if_pos rfl]
    · intro r _ hne
      refine if_neg fun e => hne (Fin.ext ?_)
      unfold dstOf at e
      rw [Fin.val_natAdd, if_neg (by omega)] at e
      dsimp only
      omega
    · exact fun h => absurd (Finset.mem_univ _) h
  rw [hloop]
  have hedges : (∑ e : Fin A, if dstOf n m A (Fin.castAdd Q e).val = t then f (srcOf m A (Fin.castAdd Q e).val) else 0)
      = ∑ q : Fin Q, if q.val / n = t / n then (if q.val = t then 0 else f q.val) else 0 := by
    subst hA
    rw [← (finProdFinEquiv (m := Q) (n := m)).sum_comp, Fintype.sum_prod_type]
    refine Finset.sum_congr rfl fun q _ => ?_
    have hq := q.isLt
    have hqn := Nat.mod_lt q.val hn0
    have htn := Nat.mod_lt t hn0
    have hqd := Nat.div_add_mod q.val n
    have htd := Nat.div_add_mod t n
    by_cases h : q.val / n = t / n
    · rw [if_pos h]
      have hs := sum_skip m (q.val % n) (t % n) (by omega) (by omega) (f q.val)
      have hiff : q.val = t ↔ q.val % n = t % n := by
        constructor
        · intro e; rw [e]
        · intro e; rw [← hqd, ← htd, h, e]
      simp only [hiff]
      rw [← hs]
      refine Finset.sum_congr rfl fun j _ => ?_
      obtain ⟨e1, e2, e3⟩ := dstOf_edge n m (Q * m) Q q.val j.val rfl hq j.isLt
      rw [Fin.val_castAdd, finProdFinEquiv_apply_val]
      dsimp only
      unfold dstOf srcOf
      rw [if_pos e1, if_pos e1, e2, e3, h]
      refine if_congr ?_ rfl rfl
      rw [Nat.mul_comm n] at htd
      omega
    · rw [if_neg h]
      refine Finset.sum_eq_zero fun j _ => if_neg fun e => h ?_
      have hj := j.isLt
      obtain ⟨e1, e2, e3⟩ := dstOf_edge n m (Q * m) Q q.val j.val rfl hq j.isLt
      rw [Fin.val_castAdd, finProdFinEquiv_apply_val] at e
      dsimp only at e
      unfold dstOf at e
      rw [if_pos e1, e2, e3] at e
      have hsk : skip (q.val % n) j.val < n := by
        unfold skip; split <;> omega
      rw [← e, Nat.mul_comm, Nat.mul_add_div hn0, Nat.div_eq_of_lt hsk, Nat.add_zero]
  rw [hedges]
  subst hQ
  rw [← sum_same_graph G n t ht f]
  have hsplit : (∑ q : Fin (G * n), if q.val / n = t / n then f q.val else 0)
      = ∑ q : Fin (G * n), ((if q.val / n = t / n then (if q.val = t then 0 else f q.val) else 0) + if q.val = t then f q.val else 0) := by
    refine Finset.sum_congr rfl fun q _ => ?_
    by_cases h : q.val = t
    · rw [h, if_pos rfl, if_pos rfl, if_pos rfl, if_pos rfl, zero_add]
    · rw [if_neg h, if_neg h, add_zero]
  rw [hsplit, Finset.sum_add_distrib]
  congr 1
  rw [Finset.sum_eq_single (⟨t, ht⟩ : Fin (G * n))]
  · rw [if_pos rfl]
  · intro q _ hne
    exact if_neg fun e => hne (Fin.ext e)
  · exact fun h => absurd (Finset.mem_univ _) h

/-- The source of an edge is a node. -/
theorem srcOf_lt (m A Q e : ℕ) (hA : A = Q * m) (he : e < A + Q) : srcOf m A e < Q := by
  unfold srcOf
  split
  · next h => exact Nat.div_lt_of_lt_mul (by rw [Nat.mul_comm, ← hA]; exact h)
  · omega

/-- The target of an edge is a node. -/
theorem dstOf_lt (G n m A Q e : ℕ) (hn : n = m + 1) (hQ : Q = G * n) (hA : A = Q * m) (he : e < A + Q) : dstOf n m A e < Q := by
  have hn0 : 0 < n := by omega
  unfold dstOf
  split
  · next h =>
    have hm : 0 < m := Nat.pos_of_ne_zero fun h0 => by rw [hA, h0] at h; omega
    have hq : e / m < Q := Nat.div_lt_of_lt_mul (by rw [Nat.mul_comm, ← hA]; exact h)
    have hg : e / m / n < G := Nat.div_lt_of_lt_mul (by rw [Nat.mul_comm, ← hQ]; exact hq)
    have hi := Nat.mod_lt (e / m) hn0
    have hj := Nat.mod_lt e hm
    have hsk : skip (e / m % n) (e % m) < n := by
      unfold skip; split <;> omega
    calc e / m / n * n + skip (e / m % n) (e % m) < e / m / n * n + n := by omega
      _ = (e / m / n + 1) * n := by rw [Nat.add_mul, Nat.one_mul]
      _ ≤ G * n := Nat.mul_le_mul_right _ hg
      _ = Q := hQ.symm
  · omega

end Cert.Gcn

end
-- ==== Proof.Words.lean ====
/- The index words of the reference: the edge list that it builds by iotas, jnp's wrap of a negative index, and the
   flat node numbers made of a row's selected positions. Each holds the number that one expects. -/
module

public import proofs.«01_k».proof.Proof.Edges
public import Idealize.ShloMosaic.Lib.IdealHost
public import Idealize.ShloMosaic.Lib.Pipeline.Value
public import Idealize.ShloMosaic.Lib.Routing.Ops
public import Idealize.ShloMosaic.Lib.Routing.OpsPair

@[expose] public section

namespace Cert.Gcn

open Idealize.ShloMosaic Idealize.ShloMosaic.Routing Idealize.ShloMosaic.ValueIdx

variable {G n m A Q E : ℕ}

/-- `[a, b, c]` reshaped to a vector: entry `p` is the entry at the indices that `p` splits into. -/
theorem cast31 {α : Type} {a b c N : ℕ} (x : (shape3 a b c).Idx → α) (h : (shape3 a b c).ShapeCasts (shape1 N)) (p : Fin N)
    (h0 : p.val / c / b < a) (h1 : p.val / c % b < b) (h2 : p.val % c < c) :
    shapeCast (shape1 N) x h (ix1 p) = x (ix3 ⟨p.val / c / b, h0⟩ ⟨p.val / c % b, h1⟩ ⟨p.val % c, h2⟩) := by
  refine shapeCast_apply x h _ _ ?_
  rw [Shape.rowMajor_val_three, Shape.rowMajor_val_one]
  show (p.val / c / b * b + p.val / c % b) * c + p.val % c = p.val
  rw [Nat.div_add_mod', Nat.div_add_mod']

/-- A vector of words in front of another, read at entry `e`. -/
theorem concat_apply {α : Type} (x : (shape1 A).Idx → α) (y : (shape1 Q).Idx → α)
    (h : Shape.Concatenates [shape1 A, shape1 Q] (shape1 E) 0) (e : Fin E) (hE : E = A + Q) :
    concatenate (shape1 E) 0 [⟨shape1 A, x⟩, ⟨shape1 Q, y⟩] h (ix1 e)
      = if hlt : e.val < A then x (ix1 ⟨e.val, hlt⟩) else y (ix1 ⟨e.val - A, by omega⟩) := by
  by_cases hlt : e.val < A
  · rw [dif_pos hlt]
    refine concatenate_pair_apply_left (t := shape1 E) 0 x y h (ix1 e) rfl _ fun b => ?_
    match b with
    | ⟨0, _⟩ => rfl
  · rw [dif_neg hlt]
    refine concatenate_pair_apply_right (t := shape1 E) 0 x y h (ix1 e) rfl rfl _ (fun b hb => ?_) ?_
    · match b with
      | ⟨0, _⟩ => exact absurd rfl hb
    · show (e.val - A) + A = e.val
      omega

/-- The words of the sources: over the reshaped array `g * n + i` and, behind it, the nodes in order, entry `e` holds
    `srcOf`. -/
theorem src_word (hn : n = m + 1) (hQ : Q = G * n) (hA : A = Q * m) (hE : E = A + Q)
    (hb : shape0.BroadcastsInDim (shape3 G n m) (![] : Fin 0 → Fin (shape3 G n m).rank))
    (hc : (shape3 G n m).ShapeCasts (shape1 A)) (h : Shape.Concatenates [shape1 A, shape1 Q] (shape1 E) 0) (e : Fin E) :
    concatenate (shape1 E) 0
        [⟨shape1 A, shapeCast (shape1 A)
          (addi (muli (iotaInDim (shape3 G n m) 32 0) (broadcastInDim (shape3 G n m) ![] hb (constantI shape0 32 (BitVec.ofNat 32 n))))
            (iotaInDim (shape3 G n m) 32 1)) hc⟩,
         ⟨shape1 Q, iotaInDim (shape1 Q) 32 0⟩] h (ix1 e)
      = BitVec.ofNat 32 (srcOf m A e.val) := by
  rw [concat_apply _ _ h e hE]
  unfold srcOf
  split
  · next hlt =>
    have hm : 0 < m := Nat.pos_of_ne_zero fun h0 => by rw [hA, h0] at hlt; omega
    have hn0 : 0 < n := by omega
    have hq : e.val / m < Q := Nat.div_lt_of_lt_mul (by rw [Nat.mul_comm, ← hA]; exact hlt)
    have hg : e.val / m / n < G := Nat.div_lt_of_lt_mul (by rw [Nat.mul_comm, ← hQ]; exact hq)
    rw [cast31 _ hc ⟨e.val, hlt⟩ hg (Nat.mod_lt _ hn0) (Nat.mod_lt _ hm)]
    show BitVec.ofNat 32 (e.val / m / n) * BitVec.ofNat 32 n + BitVec.ofNat 32 (e.val / m % n) = BitVec.ofNat 32 (e.val / m)
    rw [← BitVec.ofNat_mul, ← BitVec.ofNat_add, Nat.div_add_mod']
  · rfl

/-- The words of the targets: over the reshaped array `g * n + (the j-th number other than i)` and, behind it, the nodes
    in order, entry `e` holds `dstOf`. -/
theorem dst_word (hn : n = m + 1) (hQ : Q = G * n) (hA : A = Q * m) (hE : E = A + Q) (hn31 : n < 2 ^ 31)
    (hb : shape0.BroadcastsInDim (shape3 G n m) (![] : Fin 0 → Fin (shape3 G n m).rank))
    (hc : (shape3 G n m).ShapeCasts (shape1 A)) (h : Shape.Concatenates [shape1 A, shape1 Q] (shape1 E) 0) (e : Fin E) :
    concatenate (shape1 E) 0
        [⟨shape1 A, shapeCast (shape1 A)
          (addi (muli (iotaInDim (shape3 G n m) 32 0) (broadcastInDim (shape3 G n m) ![] hb (constantI shape0 32 (BitVec.ofNat 32 n))))
            (select (cmpi .slt (iotaInDim (shape3 G n m) 32 2) (iotaInDim (shape3 G n m) 32 1)) (iotaInDim (shape3 G n m) 32 2)
              (addi (iotaInDim (shape3 G n m) 32 2) (broadcastInDim (shape3 G n m) ![] hb (constantI shape0 32 1#32))))) hc⟩,
         ⟨shape1 Q, iotaInDim (shape1 Q) 32 0⟩] h (ix1 e)
      = BitVec.ofNat 32 (dstOf n m A e.val) := by
  rw [concat_apply _ _ h e hE]
  unfold dstOf
  split
  · next hlt =>
    have hm : 0 < m := Nat.pos_of_ne_zero fun h0 => by rw [hA, h0] at hlt; omega
    have hn0 : 0 < n := by omega
    have hq : e.val / m < Q := Nat.div_lt_of_lt_mul (by rw [Nat.mul_comm, ← hA]; exact hlt)
    have hg : e.val / m / n < G := Nat.div_lt_of_lt_mul (by rw [Nat.mul_comm, ← hQ]; exact hq)
    have hi := Nat.mod_lt (e.val / m) hn0
    have hj := Nat.mod_lt e.val hm
    rw [cast31 _ hc ⟨e.val, hlt⟩ hg hi hj]
    show BitVec.ofNat 32 (e.val / m / n) * BitVec.ofNat 32 n
        + Scalar.select (IntOp.cmpi .slt (BitVec.ofNat 32 (e.val % m)) (BitVec.ofNat 32 (e.val / m % n))) (BitVec.ofNat 32 (e.val % m))
            (BitVec.ofNat 32 (e.val % m) + 1#32)
      = BitVec.ofNat 32 (e.val / m / n * n + skip (e.val / m % n) (e.val % m))
    have hs : Scalar.select (IntOp.cmpi .slt (BitVec.ofNat 32 (e.val % m)) (BitVec.ofNat 32 (e.val / m % n))) (BitVec.ofNat 32 (e.val % m))
        (BitVec.ofNat 32 (e.val % m) + 1#32) = BitVec.ofNat 32 (skip (e.val / m % n) (e.val % m)) := by
      unfold skip
      have hc1 : IntOp.cmpi .slt (BitVec.ofNat 32 (e.val % m)) (BitVec.ofNat 32 (e.val / m % n)) = BitVec.ofBool (decide (e.val % m < e.val / m % n)) := by
        show BitVec.ofBool (BitVec.slt _ _) = _
        rw [BitVec.slt, StableHlo.Predicate.toInt_ofNat_small _ (by omega), StableHlo.Predicate.toInt_ofNat_small _ (by omega)]
        congr 2
        exact propext (by omega)
      rw [hc1]
      by_cases hjl : e.val % m < e.val / m % n
      · rw [if_pos hjl, decide_eq_true hjl]; rfl
      · rw [if_neg hjl, decide_eq_false hjl, BitVec.ofNat_add]; rfl
    rw [hs, ← BitVec.ofNat_mul, ← BitVec.ofNat_add]
  · rfl

/-- jnp's wrap of a negative index leaves a word that holds a number below 2³¹ as it is; the words as the gathers read
    them, one column. -/
theorem wrap_col {N : ℕ} (w : BitVec 32) (x : IVec (shape1 N) 32)
    (hb : shape0.BroadcastsInDim (shape1 N) (![] : Fin 0 → Fin (shape1 N).rank))
    (hcol : (shape1 N).BroadcastsInDim (shape2 N 1) (![0] : Fin 1 → Fin (shape2 N 1).rank)) (p : Fin N) (k : ℕ) (hk : k < 2 ^ 31)
    (hx : x (ix1 p) = BitVec.ofNat 32 k) :
    broadcastInDim (shape2 N 1) ![0] hcol
        (select (cmpi .slt x (broadcastInDim (shape1 N) ![] hb (constantI shape0 32 0#32)))
          (addi x (broadcastInDim (shape1 N) ![] hb (constantI shape0 32 w))) x) (ix2 p (0 : Fin 1))
      = BitVec.ofNat 32 k := by
  rw [bcCol]
  show Scalar.select (IntOp.cmpi .slt (x (ix1 p)) 0#32) (x (ix1 p) + w) (x (ix1 p)) = _
  rw [hx]
  exact wrap_of_lt _ _ (by rw [BitVec.toNat_ofNat, Nat.mod_eq_of_lt (by omega)]; exact hk)

/-- The flat node numbers: `[G, k]` positions within rows, plus each row's number times the row's length, reshaped to a
    vector. -/
theorem flat_word {k N : ℕ} (pos : IVec (shape2 G k) 32) (w : BitVec 32) (hw : w = BitVec.ofNat 32 n)
    (hb : shape0.BroadcastsInDim (shape1 G) (![] : Fin 0 → Fin (shape1 G).rank))
    (h₁ : (shape1 G).BroadcastsInDim (shape2 G 1) (![0] : Fin 1 → Fin (shape2 G 1).rank))
    (h₂ : (shape2 G 1).BroadcastsInDim (shape2 G k) (![0, 1] : Fin 2 → Fin (shape2 G k).rank))
    (hc : (shape2 G k).ShapeCasts (shape1 N)) (g : Fin G) (j : Fin k) (p : Fin N) (hp : p.val = g.val * k + j.val) (i : ℕ)
    (hi : pos (ix2 g j) = BitVec.ofNat 32 i) :
    shapeCast (shape1 N) (addi pos (broadcastInDim (shape2 G k) ![0, 1] h₂ (broadcastInDim (shape2 G 1) ![0] h₁
        (muli (iotaInDim (shape1 G) 32 0) (broadcastInDim (shape1 G) ![] hb (constantI shape0 32 w)))))) hc (ix1 p)
      = BitVec.ofNat 32 (g.val * n + i) := by
  rw [cast21 _ hc g j p hp]
  show pos (ix2 g j) + broadcastInDim (shape2 G k) ![0, 1] h₂ (broadcastInDim (shape2 G 1) ![0] h₁
        (muli (iotaInDim (shape1 G) 32 0) (broadcastInDim (shape1 G) ![] hb (constantI shape0 32 w)))) (ix2 g j) = _
  rw [bcRows, hi, hw]
  show BitVec.ofNat 32 i + BitVec.ofNat 32 g.val * BitVec.ofNat 32 n = _
  rw [← BitVec.ofNat_mul, ← BitVec.ofNat_add, Nat.add_comm]

end Cert.Gcn

end
-- ==== Proof.Layer.lean ====
/- One GCN layer of the reference on `G` complete graphs of `n` nodes, read at a node and a column: the degrees, the
   messages along the edges, bias, relu and batch norm. -/
module

public import proofs.«01_k».proof.Proof.Scatter
public import proofs.«01_k».proof.Proof.Words

@[expose] public section

noncomputable section

namespace Cert.Gcn

open Idealize.ShloMosaic Idealize.ShloMosaic.Routing Idealize.ShloMosaic.ValueIdx

variable {G n m A Q E C : ℕ}

/-- `n` ones add up to `n`. -/
theorem sum_ones (n : ℕ) : (∑ _s : Fin n, (1 : EReal)) = ((n : ℝ) : EReal) := by
  rw [Finset.sum_const, Finset.card_univ, Fintype.card_fin]
  induction n with
  | zero => simp
  | succ k ih => rw [succ_nsmul, ih, Nat.cast_succ, EReal.coe_add, EReal.coe_one]

/-- The inverse root of a node's degree: every node of a complete graph of `n` nodes with self loops has degree `n`. -/
theorem degree_apply (hn : n = m + 1) (hQ : Q = G * n) (hA : A = Q * m) (hE : E = A + Q) (h31 : Q < 2 ^ 31)
    (wf : ScatterDims.WF (shape1 Q) (shape2 E 1) (shape1 E) [] [0] [0] 1)
    (hb0 : shape0.BroadcastsInDim (shape1 Q) (![] : Fin 0 → Fin (shape1 Q).rank))
    (hcol : (shape1 E).BroadcastsInDim (shape2 E 1) (![0] : Fin 1 → Fin (shape2 E 1).rank))
    (hb1 : shape0.BroadcastsInDim (shape1 E) (![] : Fin 0 → Fin (shape1 E).rank))
    (dst : IVec (shape1 E) 32) (hdst : ∀ e : Fin E, dst (ix1 e) = BitVec.ofNat 32 (dstOf n m A e.val)) (t : Fin Q) :
    Host.rsqrt (Host.scatterAdd (F := Ideal) (φ := .f32) (segDims Q E wf) (broadcastInDim (shape1 Q) ![] hb0 (constant shape0 .f32 0x00000000#32))
        (broadcastInDim (shape2 E 1) ![0] hcol dst) (broadcastInDim (shape1 E) ![] hb1 (constant shape0 .f32 0x3F800000#32))) (ix1 t)
      = Ideal.rsqrt ((n : ℝ) : EReal) := by
  show Ideal.rsqrt (Ideal.hostScatterAdd (segDims Q E wf) _ _ _ (ix1 t)) = _
  refine congrArg Ideal.rsqrt ?_
  rw [segSum_apply wf _ _ _ (dstOf n m A) (fun e => (bcCol hcol dst e).trans (hdst e))
    (fun e => lt_trans (dstOf_lt G n m A Q e.val hn hQ hA (by omega)) h31) t, bc0]
  show Ideal.ofBits .f32 0x00000000#32 + _ = _
  rw [Ideal.ofBits_zero_f32, zero_add, ← sum_ones n]
  refine Eq.trans ?_ (sum_edges_into G n m A Q E t.val hn hQ hA hE t.isLt fun _ => (1 : EReal))
  refine Finset.sum_congr rfl fun e _ => ?_
  rw [bc0]
  exact Ideal.ofBits_one_f32

/-- The nodes of the graph of node `t` are among the `Q` nodes. -/
theorem graph_node_lt (hQ : Q = G * n) (t : Fin Q) (s : Fin n) : t.val / n * n + s.val < Q := by
  have hs := s.isLt
  have hg : t.val / n < G := Nat.div_lt_of_lt_mul (by rw [Nat.mul_comm, ← hQ]; exact t.isLt)
  calc t.val / n * n + s.val < t.val / n * n + n := by omega
    _ = (t.val / n + 1) * n := by rw [Nat.add_mul, Nat.one_mul]
    _ ≤ G * n := Nat.mul_le_mul_right _ hg
    _ = Q := hQ.symm

/-- THE MESSAGES INTO A NODE. The rows `h` of the sources, each scaled by the product of the two ends' factors, summed
    into the target: at node `t` and column `c`, the sum over the nodes of `t`'s graph, when all factors are `ν`. -/
theorem messages_apply (hn : n = m + 1) (hQ : Q = G * n) (hA : A = Q * m) (hE : E = A + Q) (h31 : Q < 2 ^ 31)
    (wf : ScatterDims.WF (shape2 Q C) (shape2 E 1) (shape2 E C) [1] [0] [0] 1)
    (dr : GatherDims (shape2 Q C) (shape2 E 1) (shape2 E C)) (hr1 : dr.offsetDims = [1]) (hr2 : dr.collapsedSliceDims = [0])
    (hr3 : dr.operandBatchingDims = []) (hr4 : dr.startIndexMap = [0]) (hr5 : dr.indexVectorDim = 1)
    (ds : GatherDims (shape1 Q) (shape2 E 1) (shape1 E)) (hs2 : ds.collapsedSliceDims = [0])
    (hs3 : ds.operandBatchingDims = []) (hs4 : ds.startIndexMap = [0]) (hs5 : ds.indexVectorDim = 1)
    (hb0 : shape0.BroadcastsInDim (shape2 Q C) (![] : Fin 0 → Fin (shape2 Q C).rank))
    (hb1 : shape0.BroadcastsInDim (shape1 E) (![] : Fin 0 → Fin (shape1 E).rank))
    (hcol : (shape1 E).BroadcastsInDim (shape2 E 1) (![0] : Fin 1 → Fin (shape2 E 1).rank))
    (hrow : (shape2 E 1).BroadcastsInDim (shape2 E C) (![0, 1] : Fin 2 → Fin (shape2 E C).rank))
    (w : BitVec 32) (src dst : IVec (shape1 E) 32) (hsrc : ∀ e : Fin E, src (ix1 e) = BitVec.ofNat 32 (srcOf m A e.val))
    (hdst : ∀ e : Fin E, dst (ix1 e) = BitVec.ofNat 32 (dstOf n m A e.val))
    (h : FVec Ideal (shape2 Q C) .f32) (dis : FVec Ideal (shape1 Q) .f32) (ν : EReal) (hdis : ∀ t : Fin Q, dis (ix1 t) = ν)
    (t : Fin Q) (c : Fin C) :
    Host.scatterAdd (F := Ideal) (φ := .f32) (segRowDims Q C E wf) (broadcastInDim (shape2 Q C) ![] hb0 (constant shape0 .f32 0x00000000#32))
        (broadcastInDim (shape2 E 1) ![0] hcol dst)
        (mulf (Host.gather dr h (broadcastInDim (shape2 E 1) ![0] hcol
            (select (cmpi .slt src (broadcastInDim (shape1 E) ![] hb1 (constantI shape0 32 0#32)))
              (addi src (broadcastInDim (shape1 E) ![] hb1 (constantI shape0 32 w))) src)))
          (broadcastInDim (shape2 E C) ![0, 1] hrow (broadcastInDim (shape2 E 1) ![0] hcol
            (mulf (Host.gather ds dis (broadcastInDim (shape2 E 1) ![0] hcol
                (select (cmpi .slt src (broadcastInDim (shape1 E) ![] hb1 (constantI shape0 32 0#32)))
                  (addi src (broadcastInDim (shape1 E) ![] hb1 (constantI shape0 32 w))) src)))
              (Host.gather ds dis (broadcastInDim (shape2 E 1) ![0] hcol
                (select (cmpi .slt dst (broadcastInDim (shape1 E) ![] hb1 (constantI shape0 32 0#32)))
                  (addi dst (broadcastInDim (shape1 E) ![] hb1 (constantI shape0 32 w))) dst))))))) (ix2 t c)
      = ∑ s : Fin n, h (ix2 ⟨t.val / n * n + s.val, graph_node_lt hQ t s⟩ c) * (ν * ν) := by
  have hsl : ∀ e : Fin E, srcOf m A e.val < Q := fun e => srcOf_lt m A Q e.val hA (by omega)
  have hdl : ∀ e : Fin E, dstOf n m A e.val < Q := fun e => dstOf_lt G n m A Q e.val hn hQ hA (by omega)
  show Ideal.hostScatterAdd (segRowDims Q C E wf) _ _ _ (ix2 t c) = _
  rw [segRowSum_apply wf _ _ _ (dstOf n m A) (fun e => (bcCol hcol dst e).trans (hdst e)) (fun e => lt_trans (hdl e) h31) t c, bc0]
  show Ideal.ofBits .f32 0x00000000#32 + _ = _
  rw [Ideal.ofBits_zero_f32, zero_add]
  have hs := sum_edges_into G n m A Q E t.val hn hQ hA hE t.isLt
    (fun k => if hk : k < Q then h (ix2 ⟨k, hk⟩ c) * (ν * ν) else (0 : EReal))
  refine Eq.trans ?_ (hs.trans (Finset.sum_congr rfl fun s _ => dif_pos (graph_node_lt hQ t s)))
  refine Finset.sum_congr rfl fun e _ => ?_
  rw [dif_pos (hsl e)]
  show Host.gather dr h _ (ix2 e c) * broadcastInDim (s := shape2 E 1) (shape2 E C) ![0, 1] hrow _ (ix2 e c) = _
  rw [bcRows, gather_row dr hr1 hr2 hr3 hr4 hr5 h _ e c ⟨srcOf m A e.val, hsl e⟩
    (wrap_col w src hb1 hcol e _ (lt_trans (hsl e) h31) (hsrc e)) h31]
  refine congrArg (h (ix2 ⟨srcOf m A e.val, hsl e⟩ c) * ·) ?_
  show Host.gather ds dis _ (ix1 e) * Host.gather ds dis _ (ix1 e) = _
  rw [gather_take1 ds hs2 hs3 hs4 hs5 dis _ e ⟨srcOf m A e.val, hsl e⟩
    (wrap_col w src hb1 hcol e _ (lt_trans (hsl e) h31) (hsrc e)) h31,
    gather_take1 ds hs2 hs3 hs4 hs5 dis _ e ⟨dstOf n m A e.val, hdl e⟩
    (wrap_col w dst hb1 hcol e _ (lt_trans (hdl e) h31) (hdst e)) h31, hdis, hdis]

/-- Bias, relu and batch norm (running mean 0, running variance 1) of one entry `z`, as the reference computes them. -/
def act (z b γ β : EReal) : EReal :=
  Ideal.div (max (z + b) 0 - 0) (Ideal.sqrt (Ideal.ofBits .f32 0x3F800054#32)) * γ + β

/-- The reference's bias, relu and batch norm of a matrix `z`, at an entry. -/
theorem act_apply (z : FVec Ideal (shape2 Q C) .f32) (b γ β : FVec Ideal (shape1 C) .f32)
    (h0 : shape0.BroadcastsInDim (shape2 Q C) (![] : Fin 0 → Fin (shape2 Q C).rank))
    (h1 : (shape1 C).BroadcastsInDim (shape2 1 C) (![1] : Fin 1 → Fin (shape2 1 C).rank))
    (h2 : (shape2 1 C).BroadcastsInDim (shape2 Q C) (![0, 1] : Fin 2 → Fin (shape2 Q C).rank)) (t : Fin Q) (c : Fin C) :
    addf (mulf (Host.divf (subf (maximumf (addf z (broadcastInDim (shape2 Q C) ![0, 1] h2 (broadcastInDim (shape2 1 C) ![1] h1 b)))
          (broadcastInDim (shape2 Q C) ![] h0 (constant shape0 .f32 0x00000000#32)))
          (broadcastInDim (shape2 Q C) ![] h0 (constant shape0 .f32 0x00000000#32)))
          (broadcastInDim (shape2 Q C) ![] h0 (id (Host.sqrt (constant shape0 .f32 0x3F800054#32)))))
        (broadcastInDim (shape2 Q C) ![0, 1] h2 (broadcastInDim (shape2 1 C) ![1] h1 γ)))
      (broadcastInDim (shape2 Q C) ![0, 1] h2 (broadcastInDim (shape2 1 C) ![1] h1 β)) (ix2 t c)
      = act (z (ix2 t c)) (b (ix1 c)) (γ (ix1 c)) (β (ix1 c)) := by
  show Ideal.div (max (z (ix2 t c) + broadcastInDim (shape2 Q C) ![0, 1] h2 (broadcastInDim (shape2 1 C) ![1] h1 b) (ix2 t c))
        (broadcastInDim (shape2 Q C) ![] h0 (constant (F := Ideal) shape0 .f32 0x00000000#32) (ix2 t c))
        - broadcastInDim (shape2 Q C) ![] h0 (constant (F := Ideal) shape0 .f32 0x00000000#32) (ix2 t c))
      (broadcastInDim (shape2 Q C) ![] h0 (id (Host.sqrt (constant (F := Ideal) shape0 .f32 0x3F800054#32))) (ix2 t c))
      * broadcastInDim (shape2 Q C) ![0, 1] h2 (broadcastInDim (shape2 1 C) ![1] h1 γ) (ix2 t c)
      + broadcastInDim (shape2 Q C) ![0, 1] h2 (broadcastInDim (shape2 1 C) ![1] h1 β) (ix2 t c) = _
  rw [bcCols, bcCols, bcCols, bc0, bc0]
  show Ideal.div (max (z (ix2 t c) + b (ix1 c)) (Ideal.ofBits .f32 0x00000000#32) - Ideal.ofBits .f32 0x00000000#32)
      (Ideal.sqrt (Ideal.ofBits .f32 0x3F800054#32)) * γ (ix1 c) + β (ix1 c) = _
  rw [Ideal.ofBits_zero_f32]
  rfl

end Cert.Gcn

end

end
-- ==== Proof.Algebra.lean ====
/- The arithmetic on extended reals where the kernel and the reference differ: the first aggregate, the batch norm's
   scale, a score's norm, the second aggregate. -/
module

public import proofs.«01_k».proof.Proof.Consts
public import proofs.«01_k».proof.Proof.Layer

@[expose] public section

noncomputable section

namespace Cert.Gcn

open Idealize.ShloMosaic

/-- A factor that is a nonnegative real moves out of a sum of extended reals. -/
theorem sum_mul_real {ι : Type} (s : Finset ι) (f : ι → EReal) (c : EReal) (h0 : 0 ≤ c) (ht : c ≠ ⊤) :
    (∑ i ∈ s, f i * c) = (∑ i ∈ s, f i) * c := by
  classical
  induction s using Finset.induction_on with
  | empty => simp
  | insert a s ha ih =>
    rw [Finset.sum_insert ha, Finset.sum_insert ha, ih, EReal.right_distrib_of_nonneg_of_ne_top h0 ht]

/-- A real factor moves out of a sum of reals. -/
theorem sum_mul_finite {ι : Type} (s : Finset ι) (f : ι → EReal) (c : EReal) (hf : ∀ i, ∃ r : ℝ, f i = r) (hc : ∃ r : ℝ, c = r) :
    (∑ i ∈ s, f i * c) = (∑ i ∈ s, f i) * c := by
  classical
  choose g hg using hf
  obtain ⟨r, rfl⟩ := hc
  simp only [hg]
  have e1 : ∀ t : Finset ι, (∑ i ∈ t, ((g i : ℝ) : EReal)) = ((∑ i ∈ t, g i : ℝ) : EReal) := fun t => by
    induction t using Finset.induction_on with
    | empty => simp
    | insert a t ha ih => rw [Finset.sum_insert ha, Finset.sum_insert ha, ih, EReal.coe_add]
  have e2 : ∀ t : Finset ι, (∑ i ∈ t, ((g i : ℝ) : EReal) * (r : EReal)) = ((∑ i ∈ t, g i * r : ℝ) : EReal) := fun t => by
    induction t using Finset.induction_on with
    | empty => simp
    | insert a t ha ih => rw [Finset.sum_insert ha, Finset.sum_insert ha, ih, EReal.coe_add, EReal.coe_mul]
  rw [e1, e2, ← EReal.coe_mul, Finset.sum_mul]

/-- The inverse root of a positive real is a positive real. -/
theorem rsqrt_pos_real (r : ℝ) (hr : 0 < r) : Ideal.rsqrt (r : EReal) = (((Real.sqrt r)⁻¹ : ℝ) : EReal) := by
  rw [Ideal.rsqrt_coe, if_neg (not_lt.2 hr.le), if_neg hr.ne']

/-- THE FIRST AGGREGATE. Messages `x s * w`, each scaled by `ν * ν`, add up to the data's sum scaled and multiplied with
    the weight, when data and weight are reals and `ν` is the inverse root of a degree. -/
theorem agg_first {n : ℕ} (x : Fin n → EReal) (w : EReal) (d : ℝ) (hd : 0 < d) (hx : ∀ s, ∃ r : ℝ, x s = r) (hw : ∃ r : ℝ, w = r) :
    (∑ s : Fin n, x s * w * (Ideal.rsqrt (d : EReal) * Ideal.rsqrt (d : EReal)))
      = (∑ s : Fin n, x s) * (Ideal.rsqrt (d : EReal) * Ideal.rsqrt (d : EReal)) * w := by
  obtain ⟨r, hr⟩ := hw
  have hc : ∃ q : ℝ, w * (Ideal.rsqrt (d : EReal) * Ideal.rsqrt (d : EReal)) = q := by
    rw [rsqrt_pos_real d hd, hr, ← EReal.coe_mul, ← EReal.coe_mul]
    exact ⟨_, rfl⟩
  simp only [mul_assoc]
  rw [sum_mul_finite _ x _ hx hc, mul_comm w, mul_assoc]

/-- THE SECOND AGGREGATE. 64 equal messages, each scaled by the two ends' inverse roots of 64, add up to the message. -/
theorem agg_second (v : EReal) :
    (∑ _s : Fin 64, v * (Ideal.rsqrt (((64 : ℕ) : ℝ) : EReal) * Ideal.rsqrt (((64 : ℕ) : ℝ) : EReal))) = v := by
  have h8 : Real.sqrt ((64 : ℕ) : ℝ) = 8 := by
    rw [show (((64 : ℕ) : ℝ)) = 8 ^ 2 by norm_num]
    exact Real.sqrt_sq (by norm_num)
  rw [rsqrt_pos_real _ (by norm_num), h8, Finset.sum_const, Finset.card_univ, Fintype.card_fin, EReal.nsmul_eq_mul,
    ← EReal.coe_mul, mul_left_comm]
  have h1 : (((64 : ℕ) : EReal)) * (((8 : ℝ)⁻¹ * (8 : ℝ)⁻¹ : ℝ) : EReal) = 1 := by
    rw [show ((64 : ℕ) : EReal) = ((64 : ℝ) : EReal) from rfl, ← EReal.coe_mul]
    norm_num
  rw [h1, mul_one]

/-- The batch norm's variance plus its small constant has a positive root. -/
theorem bnScale_ne_zero : Ideal.sqrt (Ideal.ofBits .f32 0x3F800054#32) ≠ 0 := by
  obtain ⟨r, hr, he⟩ := ofBits_variance
  rw [he, Ideal.sqrt_coe, if_neg (not_lt.2 hr.le)]
  exact fun h => (Real.sqrt_pos.2 hr).ne' (EReal.coe_eq_zero.1 h)

/-- BIAS, RELU AND BATCH NORM as the kernel computes them: the scale `γ / √(1 + ε)` is formed first. -/
theorem act_eq (z b γ β : EReal) :
    act z b γ β = max (z + b) 0 * (γ * Ideal.div 1 (Ideal.sqrt (Ideal.ofBits .f32 0x3F800054#32))) + β := by
  unfold act
  have h := bnScale_ne_zero
  unfold Ideal.div
  rw [if_neg h, if_neg h, sub_zero, one_mul, mul_assoc, mul_comm _ γ]

/-- A square of an extended real is not negative, and positive unless its root is zero. -/
theorem square_pos (a : EReal) (h : a ≠ 0) : 0 < a * a := by
  rcases lt_or_gt_of_ne h with h1 | h1
  · exact EReal.mul_pos_iff.2 (Or.inr ⟨h1, h1⟩)
  · exact EReal.mul_pos_iff.2 (Or.inl ⟨h1, h1⟩)

/-- A sum of squares is positive if one of the numbers is not zero. -/
theorem sumsq_pos {n : ℕ} (p : Fin n → EReal) (hp : ∃ k, p k ≠ 0) : 0 < ∑ k, p k * p k := by
  have h0 : ∀ k, 0 ≤ p k * p k := fun k => by
    by_cases h : p k = 0
    · rw [h, mul_zero]
    · exact (square_pos _ h).le
  obtain ⟨k, hk⟩ := hp
  exact lt_of_lt_of_le (square_pos _ hk) (Finset.single_le_sum (f := fun k => p k * p k) (fun i _ => h0 i) (Finset.mem_univ k))

/-- A GRAPH'S SCORE: the product with the pooling weights divided by their norm is the product with the weights scaled by
    the norm's inverse, when a weight is not zero. -/
theorem score_eq {n : ℕ} (h p : Fin n → EReal) (hp : ∃ k, p k ≠ 0) :
    Ideal.div (∑ k, h k * p k) (Ideal.sqrt (∑ k, p k * p k)) = ∑ k, h k * (p k * Ideal.rsqrt (∑ k, p k * p k)) := by
  have hpos := sumsq_pos p hp
  generalize (∑ k, p k * p k) = q at hpos ⊢
  induction q using EReal.rec with
  | bot => exact absurd hpos (not_lt.2 bot_le)
  | top =>
    have e : Ideal.sqrt ⊤ = ⊤ := rfl
    rw [Ideal.rsqrt_top, e]
    unfold Ideal.div
    rw [if_neg EReal.top_ne_zero, EReal.inv_top, mul_zero]
    simp
  | coe r =>
    have hr : 0 < r := EReal.coe_pos.1 hpos
    have hs := Real.sqrt_pos.2 hr
    rw [rsqrt_pos_real r hr, Ideal.sqrt_coe, if_neg (not_lt.2 hr.le)]
    unfold Ideal.div
    rw [if_neg fun e => hs.ne' (EReal.coe_eq_zero.1 e), ← EReal.coe_inv]
    simp only [← mul_assoc]
    rw [sum_mul_real _ _ _ (EReal.coe_nonneg.2 (inv_pos.2 hs).le) (EReal.coe_ne_top _)]

end Cert.Gcn

end

end
-- ==== Proof.Rows.lean ====
/- What each program computes for one graph, as a function of the graph's row of data and the weights, and that the two
   functions agree where the data and the first weights are finite and both pooling weights are not all zero. -/
module

public import proofs.«01_k».proof.Proof.Algebra

@[expose] public section

noncomputable section

namespace Cert.Gcn

open Idealize.ShloMosaic

/-- A vector of 128 extended reals: a row of node features, or a vector of weights. -/
abbrev Row := Fin 128 → EReal

/-- The inverse root of a node's degree in a graph of `n` nodes. -/
def invRoot (n : ℕ) : EReal := Ideal.rsqrt ((n : ℝ) : EReal)

/-- THE REFERENCE'S SCORE of a row `h`: its product with the pooling weights, divided by their norm. -/
def refScore (h p : Row) : EReal := Ideal.div (∑ k, h k * p k) (Ideal.sqrt (∑ k, p k * p k))

/-- The reference's first layer: every node of a graph has this row. -/
def refRow1 (x w b γ β : Row) : Row := fun c => act (∑ s : Fin 128, x s * w c * (invRoot 128 * invRoot 128)) (b c) (γ c) (β c)

/-- The row of every node that the first pooling keeps. -/
def refPooled (h p : Row) : Row := fun c => h c * Ideal.tanh (refScore h p)

/-- The reference's second layer: every node of a graph has this row. -/
def refRow2 (h : Row) (W : Fin 128 → Row) (b γ β : Row) : Row :=
  fun c => act (∑ _s : Fin 64, (∑ k, h k * W k c) * (invRoot 64 * invRoot 64)) (b c) (γ c) (β c)

/-- The kernel's bias, relu and batch norm of an entry `z`. -/
def kerAct (z b γ β : EReal) : EReal :=
  max (z + b) 0 * (γ * Ideal.div 1 (Ideal.sqrt (Ideal.ofBits .f32 0x3F800054#32))) + β

/-- THE KERNEL'S SCORE of a row `h`: its product with the pooling weights scaled by the inverse of their norm. -/
def kerScore (h p : Row) : EReal := ∑ k, h k * (p k * Ideal.rsqrt (∑ k, p k * p k))

/-- The kernel's first layer. -/
def kerRow1 (x w b γ β : Row) : Row := fun c => kerAct ((∑ s : Fin 128, x s) * (invRoot 128 * invRoot 128) * w c) (b c) (γ c) (β c)

/-- The kernel's scaling of a row by the tanh of its score. -/
def kerPooled (h p : Row) : Row := fun c => h c * Ideal.tanh (kerScore h p)

/-- The kernel's second layer. -/
def kerRow2 (h : Row) (W : Fin 128 → Row) (b γ β : Row) : Row := fun c => kerAct (∑ k, h k * W k c) (b c) (γ c) (β c)

/-- The first layers agree on finite data and weights. -/
theorem row1_eq (x w b γ β : Row) (hx : ∀ s, ∃ r : ℝ, x s = r) (hw : ∀ c, ∃ r : ℝ, w c = r) : refRow1 x w b γ β = kerRow1 x w b γ β := by
  funext c
  unfold refRow1 kerRow1 invRoot
  rw [act_eq, agg_first x (w c) ((128 : ℕ) : ℝ) (by norm_num) hx (hw c)]
  rfl

/-- The pooled rows agree when a pooling weight is not zero. -/
theorem pooled_eq (h p : Row) (hp : ∃ k, p k ≠ 0) : refPooled h p = kerPooled h p := by
  funext c
  unfold refPooled kerPooled refScore kerScore
  rw [score_eq h p hp]

/-- The second layers agree. -/
theorem row2_eq (h : Row) (W : Fin 128 → Row) (b γ β : Row) : refRow2 h W b γ β = kerRow2 h W b γ β := by
  funext c
  unfold refRow2 kerRow2 invRoot
  rw [act_eq, agg_second]
  rfl

/-- THE TWO PROGRAMS' VALUES FOR ONE GRAPH AGREE. -/
theorem value_eq (x w b0 γ0 β0 p0 : Row) (W : Fin 128 → Row) (b1 γ1 β1 p1 : Row) (hx : ∀ s, ∃ r : ℝ, x s = r)
    (hw : ∀ c, ∃ r : ℝ, w c = r) (hp0 : ∃ k, p0 k ≠ 0) (hp1 : ∃ k, p1 k ≠ 0) :
    refPooled (refRow2 (refPooled (refRow1 x w b0 γ0 β0) p0) W b1 γ1 β1) p1
      = kerPooled (kerRow2 (kerPooled (kerRow1 x w b0 γ0 β0) p0) W b1 γ1 β1) p1 := by
  rw [row1_eq x w b0 γ0 β0 hx hw, pooled_eq _ p0 hp0, row2_eq, pooled_eq _ p1 hp1]

end Cert.Gcn

end

end
-- ==== Proof.TopK.lean ====
/- Top-k along the rows of a matrix: whatever the order of the selection, every value and every position selected in a
   row is one of that row's. -/
module

public import Idealize.ShloMosaic.PureOps.ShapeOps
public import Idealize.ShloMosaic.Lib.ValueIdx
public import Idealize.ShloMosaic.Lib.Routing.Shapes

@[expose] public section

namespace Cert.Gcn

open Idealize.ShloMosaic Idealize.ShloMosaic.Routing Idealize.ShloMosaic.ValueIdx

/-- A sort of two matrices together along their rows takes both from one position of the same row. -/
theorem sort2_entry {α β : Type} {G n : ℕ} (cmp : α × β → α × β → BitVec 1) (x : (shape2 G n).Idx → α) (y : (shape2 G n).Idx → β) :
    ∃ π : (shape2 G n).Idx → Fin n, Host.sort2 (shape2 G n) 1 cmp x y
      = (fun j => x (j.along (1 : Fin 2) (π j)), fun j => y (j.along (1 : Fin 2) (π j))) := by
  unfold Host.sort2
  rw [dif_pos (show 1 < (shape2 G n).rank from Nat.lt_succ_self 1)]
  exact ⟨_, rfl⟩

/-- Entry `(g, j)` of a top-k along the rows of `x` is, for some position `i` of row `g`, the value `x g i` together with
    the word of `i`. -/
theorem topK_entry {α : Type} {G n k : ℕ} (gt : α → α → BitVec 1) (x : (shape2 G n).Idx → α)
    (h : (shape2 G n).Slices (fun _ => 0) (shape2 G k)) (g : Fin G) (j : Fin k) :
    ∃ i : Fin n, (Host.topK (shape2 G k) 1 gt x h).1 (ix2 g j) = x (ix2 g i)
      ∧ (Host.topK (shape2 G k) 1 gt x h).2 (ix2 g j) = BitVec.ofNat 32 i.val := by
  unfold Host.topK
  obtain ⟨π, hπ⟩ := sort2_entry (fun l r : α × BitVec 32 => gt l.1 r.1) x
    (fun i : (shape2 G n).Idx => if hd : 1 < (shape2 G n).rank then iotaInDim (shape2 G n) 32 ⟨1, hd⟩ i else 0#32)
  dsimp only
  rw [hπ]
  let q : (shape2 G n).Idx := extractStridedSlice (shape2 G k) (fun _ => 0) id h (ix2 g j)
  refine ⟨π q, ?_, rfl⟩
  show x (q.along (1 : Fin 2) (π q)) = x (ix2 g (π q))
  generalize π q = i
  refine congrArg x (funext fun a => ?_)
  match a with
  | ⟨0, _⟩ => exact Fin.ext (Nat.zero_add g.val)
  | ⟨1, _⟩ => rfl

end Cert.Gcn

end
-- ==== Proof.Pool.lean ====
/- Top-k pooling where all rows of a graph are equal, and so all its scores: whichever nodes are selected, every pooled
   row is the graph's row times the tanh of the graph's score. -/
module

public import proofs.«01_k».proof.Proof.TopK
public import proofs.«01_k».proof.Proof.Words

@[expose] public section

noncomputable section

namespace Cert.Gcn

open Idealize.ShloMosaic Idealize.ShloMosaic.Routing Idealize.ShloMosaic.ValueIdx

variable {G n k Q N C : ℕ}

/-- A node's graph, of a node given by its graph and its number there. -/
theorem graph_of (g : ℕ) {i n : ℕ} (hi : i < n) : (g * n + i) / n = g := by
  rw [Nat.mul_comm, Nat.mul_add_div (by omega), Nat.div_eq_of_lt hi, Nat.add_zero]

/-- THE POOLED ROW `p` when node `t`'s row is `row (t / n)` and its score is `σ (t / n)`. -/
theorem pool_apply (hQ : Q = G * n) (hN : N = G * k) (h31 : Q < 2 ^ 31)
    (d : GatherDims (shape2 Q C) (shape2 N 1) (shape2 N C)) (hd1 : d.offsetDims = [1]) (hd2 : d.collapsedSliceDims = [0])
    (hd3 : d.operandBatchingDims = []) (hd4 : d.startIndexMap = [0]) (hd5 : d.indexVectorDim = 1)
    (gt : EReal → EReal → BitVec 1) (hsl : (shape2 G n).Slices (fun _ => 0) (shape2 G k))
    (hbG : shape0.BroadcastsInDim (shape1 G) (![] : Fin 0 → Fin (shape1 G).rank))
    (hg1 : (shape1 G).BroadcastsInDim (shape2 G 1) (![0] : Fin 1 → Fin (shape2 G 1).rank))
    (hg2 : (shape2 G 1).BroadcastsInDim (shape2 G k) (![0, 1] : Fin 2 → Fin (shape2 G k).rank))
    (hc hc' : (shape2 G k).ShapeCasts (shape1 N))
    (hbN : shape0.BroadcastsInDim (shape1 N) (![] : Fin 0 → Fin (shape1 N).rank))
    (hcol : (shape1 N).BroadcastsInDim (shape2 N 1) (![0] : Fin 1 → Fin (shape2 N 1).rank))
    (hrow : (shape2 N 1).BroadcastsInDim (shape2 N C) (![0, 1] : Fin 2 → Fin (shape2 N C).rank))
    (w wn : BitVec 32) (hwn : wn = BitVec.ofNat 32 n)
    (H : FVec Ideal (shape2 Q C) .f32) (S : FVec Ideal (shape2 G n) .f32) (row : ℕ → Fin C → EReal) (σ : ℕ → EReal)
    (hH : ∀ (t : Fin Q) (c : Fin C), H (ix2 t c) = row (t.val / n) c) (hS : ∀ (g : Fin G) (i : Fin n), S (ix2 g i) = σ g.val)
    (flat : IVec (shape1 N) 32)
    (hflat : flat = shapeCast (shape1 N) (addi (Host.topK (shape2 G k) 1 gt S hsl).2
      (broadcastInDim (shape2 G k) ![0, 1] hg2 (broadcastInDim (shape2 G 1) ![0] hg1
        (muli (iotaInDim (shape1 G) 32 0) (broadcastInDim (shape1 G) ![] hbG (constantI shape0 32 wn)))))) hc)
    (p : Fin N) (c : Fin C) :
    mulf (Host.gather d H (broadcastInDim (shape2 N 1) ![0] hcol
          (select (cmpi .slt flat (broadcastInDim (shape1 N) ![] hbN (constantI shape0 32 0#32)))
            (addi flat (broadcastInDim (shape1 N) ![] hbN (constantI shape0 32 w))) flat)))
        (broadcastInDim (shape2 N C) ![0, 1] hrow (broadcastInDim (shape2 N 1) ![0] hcol
          (Host.tanh (F := Ideal) (φ := .f32) (shapeCast (shape1 N) (Host.topK (shape2 G k) 1 gt S hsl).1 hc')))) (ix2 p c)
      = row (p.val / k) c * Ideal.tanh (σ (p.val / k)) := by
  have hp : p.val < G * k := lt_of_lt_of_eq p.isLt hN
  have hk0 : 0 < k := Nat.pos_of_ne_zero fun h0 => by rw [h0, Nat.mul_zero] at hp; omega
  have hg : p.val / k < G := Nat.div_lt_of_lt_mul (by rw [Nat.mul_comm]; exact hp)
  have hpj : p.val = p.val / k * k + p.val % k := (Nat.div_add_mod' p.val k).symm
  obtain ⟨i, h1, h2⟩ := topK_entry gt S hsl ⟨p.val / k, hg⟩ ⟨p.val % k, Nat.mod_lt _ hk0⟩
  have hi := i.isLt
  have ht : p.val / k * n + i.val < Q := by
    calc p.val / k * n + i.val < p.val / k * n + n := by omega
      _ = (p.val / k + 1) * n := by rw [Nat.add_mul, Nat.one_mul]
      _ ≤ G * n := Nat.mul_le_mul_right _ hg
      _ = Q := hQ.symm
  have hf : flat (ix1 p) = BitVec.ofNat 32 (p.val / k * n + i.val) := by
    rw [hflat]
    exact flat_word _ wn hwn hbG hg1 hg2 hc ⟨p.val / k, hg⟩ ⟨p.val % k, Nat.mod_lt _ hk0⟩ p hpj i.val h2
  show Host.gather d H _ (ix2 p c) * broadcastInDim (s := shape2 N 1) (shape2 N C) ![0, 1] hrow _ (ix2 p c) = _
  rw [bcRows, gather_row d hd1 hd2 hd3 hd4 hd5 H _ p c ⟨p.val / k * n + i.val, ht⟩
    (wrap_col w flat hbN hcol p _ (lt_trans ht h31) hf) h31, hH]
  dsimp only
  rw [graph_of _ hi]
  refine congrArg (row (p.val / k) c * ·) ?_
  show Ideal.tanh (shapeCast (shape1 N) _ hc' (ix1 p)) = _
  rw [cast21 _ hc' ⟨p.val / k, hg⟩ ⟨p.val % k, Nat.mod_lt _ hk0⟩ p hpj, h1, hS]

end Cert.Gcn

end

end
-- ==== Proof.RefOps.lean ====
/- The reference's contractions and reductions, read at an index. -/
module

public import Idealize.ShloMosaic.Lib.Pointwise
public import Idealize.ShloMosaic.Lib.IdealHost
public import proofs.«01_k».proof.Proof.Consts
public import proofs.«01_k».proof.Proof.Gen.ReferenceIdeal

@[expose] public section

noncomputable section

namespace Cert.Gcn

open Idealize.ShloMosaic Cert.ReferenceIdeal

/-- The sum of the squares of a vector, as the reference's norm takes it. -/
theorem sumsq_apply (p : FVec Ideal S128 .f32) (h : S128.ReducesTo [0] S_) (hu : 0 < S_.numel) :
    Host.reduceAdd (mulf p p) (constant S_ .f32 0x00000000#32) h hu ValueIdx.ix0 = ∑ k : Fin 128, p (ValueIdx.ix1 k) * p (ValueIdx.ix1 k) := by
  rw [← ix0_eq_valueIdx]
  simp only [← ix1_eq_valueIdx]
  pointwise

/-- The first layer's product with its one row of weights. -/
theorem dotW0_apply [Facts] (x : FVec Ideal S4096x1 .f32) (W : FVec Ideal S1x128 .f32) (t : Fin 4096) (c : Fin 128) :
    Host.dotGeneral dot_S4096x1_S1x128_S4096x128_1_0_0_1_n_n none x W (ValueIdx.ix2 t c)
      = x (ValueIdx.ix2 t 0) * W (ValueIdx.ix2 0 c) := by
  simp only [← ix2_eq_valueIdx]
  pointwise
  exact Fin.sum_univ_one _

/-- The second layer's product with its weights. -/
theorem dotW1_apply [Facts] (x : FVec Ideal S2048x128 .f32) (W : FVec Ideal S128x128 .f32) (t : Fin 2048) (c : Fin 128) :
    Host.dotGeneral dot_S2048x128_S128x128_S2048x128_1_0_0_1_n_n none x W (ValueIdx.ix2 t c)
      = ∑ k : Fin 128, x (ValueIdx.ix2 t k) * W (ValueIdx.ix2 k c) := by
  simp only [← ix2_eq_valueIdx]
  pointwise

/-- The scores of the first layer's rows before their division. -/
theorem dotP0_apply [Facts] (x : FVec Ideal S4096x128 .f32) (p : FVec Ideal S128 .f32) (t : Fin 4096) :
    Host.dotGeneral dot_S4096x128_S128_S4096_1_0_0_n_n_n none x p (ValueIdx.ix1 t)
      = ∑ k : Fin 128, x (ValueIdx.ix2 t k) * p (ValueIdx.ix1 k) := by
  simp only [← ix2_eq_valueIdx, ← ix1_eq_valueIdx]
  pointwise

/-- The scores of the second layer's rows before their division. -/
theorem dotP1_apply [Facts] (x : FVec Ideal S2048x128 .f32) (p : FVec Ideal S128 .f32) (t : Fin 2048) :
    Host.dotGeneral dot_S2048x128_S128_S2048_1_0_0_n_n_n none x p (ValueIdx.ix1 t)
      = ∑ k : Fin 128, x (ValueIdx.ix2 t k) * p (ValueIdx.ix1 k) := by
  simp only [← ix2_eq_valueIdx, ← ix1_eq_valueIdx]
  pointwise

/-- The maximum over the pooled rows of a graph, when they are all equal. -/
theorem maxpool_apply (x : FVec Ideal S32x32x128 .f32) (h : S32x32x128.ReducesTo [1] S32x128) (hu : 0 < S_.numel) (g : Fin 32)
    (c : Fin 128) (v : EReal) (hx : ∀ j : Fin 32, x (ValueIdx.ix3 g j c) = v) :
    Host.reduce FloatOps.maximumf x (constant S_ .f32 0xFF800000#32) h hu (ValueIdx.ix2 g c) = v := by
  simp only [← ix3_eq_valueIdx] at hx
  rw [← ix2_eq_valueIdx]
  pointwise [hx]
  exact le_antisymm (Finset.fold_max_le _ |>.2 ⟨ofBits_neg_inf ▸ bot_le, fun _ _ => le_rfl⟩)
    (Finset.le_fold_max _ |>.2 (Or.inr ⟨0, Finset.mem_univ _, le_rfl⟩))

end Cert.Gcn

end

end
-- ==== Proof.Reshapes.lean ====
/- Reshapes of a matrix that keep its rows whole, read at an index. -/
module

public import Idealize.ShloMosaic.Lib.Pipeline.Value
public import Idealize.ShloMosaic.Lib.Routing.Ops

@[expose] public section

namespace Cert.Gcn

open Idealize.ShloMosaic Idealize.ShloMosaic.Routing Idealize.ShloMosaic.ValueIdx

/-- `[a, b]` reshaped to one column: row `p = i * b + j` holds entry `(i, j)`. -/
theorem cast_column {α : Type} {a b N : ℕ} (x : (shape2 a b).Idx → α) (h : (shape2 a b).ShapeCasts (shape2 N 1)) (i : Fin a) (j : Fin b)
    (p : Fin N) (hp : p.val = i.val * b + j.val) : shapeCast (shape2 N 1) x h (ix2 p (0 : Fin 1)) = x (ix2 i j) := by
  refine shapeCast_apply x h _ _ ?_
  rw [Shape.rowMajor_val_two, Shape.rowMajor_val_two]
  show i.val * b + j.val = p.val * 1 + 0
  omega

/-- `[N, c]` with its rows grouped, `[a, b, c]`: row `j` of group `i` is row `p = i * b + j`. -/
theorem cast_groups {α : Type} {a b c N : ℕ} (x : (shape2 N c).Idx → α) (h : (shape2 N c).ShapeCasts (shape3 a b c)) (i : Fin a) (j : Fin b)
    (l : Fin c) (p : Fin N) (hp : p.val = i.val * b + j.val) : shapeCast (shape3 a b c) x h (ix3 i j l) = x (ix2 p l) := by
  refine shapeCast_apply x h _ _ ?_
  rw [Shape.rowMajor_val_three, Shape.rowMajor_val_two]
  show p.val * c + l.val = (i.val * b + j.val) * c + l.val
  rw [hp]

end Cert.Gcn

end
-- ==== Proof.RefLayer1.lean ====
/- The reference's first layer and its scores: at every node, the row and the score of the node's graph. -/
module

public import proofs.«01_k».proof.Proof.Rows
public import proofs.«01_k».proof.Proof.Pool
public import proofs.«01_k».proof.Proof.RefOps
public import proofs.«01_k».proof.Proof.Reshapes
public import proofs.«01_k».proof.Proof.Gen.ReferenceIdeal.Run

@[expose] public section

noncomputable section

namespace Cert.Gcn

open Idealize.ShloMosaic hiding ix0 ix1 ix2 ix3
open Idealize.ShloMosaic.Routing Idealize.ShloMosaic.ValueIdx Cert.ReferenceIdeal Cert.ReferenceIdeal.Gen Cert.ReferenceIdeal.Value

/-- What the reference's buffers hold at its launch. -/
abbrev RefVal := Valuation τ sig (Elt Ideal)

/-- The reference's data: `[32, 128]`, one row per graph. -/
def refData (V : RefVal) : FVec Ideal (shape2 32 128) .f32 := V (Proc.devRef .tc main_arg0)
/-- The first layer's weights, one row. -/
def refW0 (V : RefVal) : FVec Ideal (shape2 1 128) .f32 := V (Proc.devRef .tc main_arg1)
/-- The second layer's weights. -/
def refW1 (V : RefVal) : FVec Ideal (shape2 128 128) .f32 := V (Proc.devRef .tc main_arg6)
/-- The first layer's bias. -/
def refB0 (V : RefVal) : FVec Ideal (shape1 128) .f32 := V (Proc.devRef .tc main_arg2)
/-- The first layer's scale. -/
def refG0 (V : RefVal) : FVec Ideal (shape1 128) .f32 := V (Proc.devRef .tc main_arg3)
/-- The first layer's shift. -/
def refE0 (V : RefVal) : FVec Ideal (shape1 128) .f32 := V (Proc.devRef .tc main_arg4)
/-- The first layer's pooling weights. -/
def refP0 (V : RefVal) : FVec Ideal (shape1 128) .f32 := V (Proc.devRef .tc main_arg5)
/-- The second layer's bias. -/
def refB1 (V : RefVal) : FVec Ideal (shape1 128) .f32 := V (Proc.devRef .tc main_arg7)
/-- The second layer's scale. -/
def refG1 (V : RefVal) : FVec Ideal (shape1 128) .f32 := V (Proc.devRef .tc main_arg8)
/-- The second layer's shift. -/
def refE1 (V : RefVal) : FVec Ideal (shape1 128) .f32 := V (Proc.devRef .tc main_arg9)
/-- The second layer's pooling weights. -/
def refP1 (V : RefVal) : FVec Ideal (shape1 128) .f32 := V (Proc.devRef .tc main_arg10)

/-- The data row of graph `g`; zeros from the 32nd graph on, which no node belongs to. -/
def refDataRow (V : RefVal) (g : ℕ) : Row := fun s => if h : g < 32 then refData V (ix2 ⟨g, h⟩ s) else 0

/-- The first layer's row of graph `g`. -/
def row1 (V : RefVal) (g : ℕ) : Row :=
  refRow1 (refDataRow V g) (fun c => refW0 V (ix2 0 c)) (fun c => refB0 V (ix1 c)) (fun c => refG0 V (ix1 c)) (fun c => refE0 V (ix1 c))

/-- The words of the first layer's sources. -/
theorem src1_apply (V : RefVal) (e : Fin 524288) :
    (show IVec (shape1 524288) 32 from res_main_v18 V) (ix1 e) = BitVec.ofNat 32 (srcOf 127 520192 e.val) :=
  src_word (G := 32) (n := 128) (m := 127) (A := 520192) (Q := 4096) (E := 524288) rfl rfl rfl rfl _ _ _ e

/-- The words of the first layer's targets. -/
theorem dst1_apply (V : RefVal) (e : Fin 524288) :
    (show IVec (shape1 524288) 32 from res_main_v19 V) (ix1 e) = BitVec.ofNat 32 (dstOf 128 127 520192 e.val) :=
  dst_word (G := 32) (n := 128) (m := 127) (A := 520192) (Q := 4096) (E := 524288) rfl rfl rfl rfl (by norm_num) _ _ _ e

/-- The first layer's inverse roots of degrees. -/
theorem deg1_apply (V : RefVal) (t : Fin 4096) : (show FVec Ideal (shape1 4096) .f32 from res_main_v24 V) (ix1 t) = invRoot 128 :=
  degree_apply (G := 32) (n := 128) (m := 127) (A := 520192) (Q := 4096) (E := 524288) rfl rfl rfl rfl (by norm_num)
    scatter_S4096_S524288x1_S524288_n_0_0_1_wf bcast_S_S4096 bcast_S524288_S524288x1_0 bcast_S_S524288
    (show IVec (shape1 524288) 32 from res_main_v19 V) (dst1_apply V) t

/-- The product of the data with the first layer's weights, as the reference forms it before the messages. -/
def feat1 (V : RefVal) : FVec Ideal (shape2 4096 128) .f32 :=
  Host.dotGeneral dot_S4096x1_S1x128_S4096x128_1_0_0_1_n_n none (shapeCast S4096x1 (refData V) shapeCasts_S32x128_S4096x1) (refW0 V)

/-- The product at the `s`-th node of graph `g`. -/
theorem feat1_apply (V : RefVal) (t : Fin 4096) (s : Fin 128) (h : t.val / 128 * 128 + s.val < 4096) (c : Fin 128) :
    feat1 V (ix2 ⟨t.val / 128 * 128 + s.val, h⟩ c) = refDataRow V (t.val / 128) s * refW0 V (ix2 0 c) := by
  have hg : t.val / 128 < 32 := by have := t.isLt; omega
  unfold feat1 refDataRow
  rw [dif_pos hg]
  refine (dotW0_apply _ _ _ c).trans (congrArg (· * refW0 V (ix2 0 c)) ?_)
  exact cast_column (refData V) _ ⟨t.val / 128, hg⟩ s _ rfl

/-- The messages into node `t` of the first layer. -/
def agg1 (V : RefVal) : FVec Ideal (shape2 4096 128) .f32 :=
  Host.scatterAdd scatter_S4096x128_S524288x1_S524288x128_1_0_0_1 (broadcastInDim S4096x128 ![] bcast_S_S4096x128 (constant S_ .f32 0x00000000#32)) (broadcastInDim S524288x1 ![0] bcast_S524288_S524288x1_0 (res_main_v19 V)) (mulf (Host.gather gather_S4096x128_S524288x1_S524288x128_1_0_n_n_0_1_1128 (feat1 V) (broadcastInDim S524288x1 ![0] bcast_S524288_S524288x1_0 (select (cmpi .slt (res_main_v18 V) (broadcastInDim S524288 ![] bcast_S_S524288 (constantI S_ 32 0#32))) (addi (res_main_v18 V) (broadcastInDim S524288 ![] bcast_S_S524288 (constantI S_ 32 4096#32))) (res_main_v18 V)))) (broadcastInDim S524288x128 ![0, 1] bcast_S524288x1_S524288x128_0_1 (broadcastInDim S524288x1 ![0] bcast_S524288_S524288x1_0 (mulf (Host.gather gather_S4096_S524288x1_S524288_n_0_n_n_0_1_1 (res_main_v24 V) (broadcastInDim S524288x1 ![0] bcast_S524288_S524288x1_0 (select (cmpi .slt (res_main_v18 V) (broadcastInDim S524288 ![] bcast_S_S524288 (constantI S_ 32 0#32))) (addi (res_main_v18 V) (broadcastInDim S524288 ![] bcast_S_S524288 (constantI S_ 32 4096#32))) (res_main_v18 V)))) (Host.gather gather_S4096_S524288x1_S524288_n_0_n_n_0_1_1 (res_main_v24 V) (broadcastInDim S524288x1 ![0] bcast_S524288_S524288x1_0 (select (cmpi .slt (res_main_v19 V) (broadcastInDim S524288 ![] bcast_S_S524288 (constantI S_ 32 0#32))) (addi (res_main_v19 V) (broadcastInDim S524288 ![] bcast_S_S524288 (constantI S_ 32 4096#32))) (res_main_v19 V))))))))

/-- The messages into node `t`: the sum over the nodes of its graph. -/
theorem agg1_apply (V : RefVal) (t : Fin 4096) (c : Fin 128) :
    agg1 V (ix2 t c) = ∑ s : Fin 128, refDataRow V (t.val / 128) s * refW0 V (ix2 0 c) * (invRoot 128 * invRoot 128) := by
  refine (messages_apply (G := 32) (n := 128) (m := 127) (A := 520192) (Q := 4096) (E := 524288) (C := 128) rfl rfl rfl rfl (by norm_num)
    scatter_S4096x128_S524288x1_S524288x128_1_0_0_1_wf gather_S4096x128_S524288x1_S524288x128_1_0_n_n_0_1_1128 rfl rfl rfl rfl rfl
    gather_S4096_S524288x1_S524288_n_0_n_n_0_1_1 rfl rfl rfl rfl bcast_S_S4096x128 bcast_S_S524288 bcast_S524288_S524288x1_0
    bcast_S524288x1_S524288x128_0_1 4096#32 (show IVec (shape1 524288) 32 from res_main_v18 V)
    (show IVec (shape1 524288) 32 from res_main_v19 V) (src1_apply V) (dst1_apply V) (feat1 V)
    (show FVec Ideal (shape1 4096) .f32 from res_main_v24 V) (invRoot 128) (deg1_apply V) t c).trans ?_
  exact Finset.sum_congr rfl fun s _ => congrArg (· * (invRoot 128 * invRoot 128)) (feat1_apply V t s _ c)

/-- THE FIRST LAYER at node `t`: the row of the node's graph. -/
theorem layer1_apply (V : RefVal) (t : Fin 4096) (c : Fin 128) :
    (show FVec Ideal (shape2 4096 128) .f32 from res_main_v68 V) (ix2 t c) = row1 V (t.val / 128) c := by
  refine (act_apply (agg1 V) (refB0 V) (refG0 V) (refE0 V) bcast_S_S4096x128 bcast_S128_S1x128_1 bcast_S1x128_S4096x128_0_1 t c).trans ?_
  rw [agg1_apply]
  rfl

/-- THE FIRST LAYER'S SCORES: node `i` of graph `g` has the score of its graph's row. -/
theorem score1_apply (V : RefVal) (g : Fin 32) (i : Fin 128) :
    (show FVec Ideal (shape2 32 128) .f32 from res_main_v73 V) (ix2 g i) = refScore (row1 V g.val) (fun k => refP0 V (ix1 k)) := by
  have hp : g.val * 128 + i.val < 4096 := by have := g.isLt; have := i.isLt; omega
  refine (cast12 _ shapeCasts_S4096_S32x128 g i ⟨g.val * 128 + i.val, hp⟩ rfl).trans ?_
  show Ideal.div (Host.dotGeneral dot_S4096x128_S128_S4096_1_0_0_n_n_n none (res_main_v68 V) (refP0 V) (ix1 ⟨g.val * 128 + i.val, hp⟩))
    (broadcastInDim S4096 ![] bcast_S_S4096 (Host.sqrt (Host.reduceAdd (mulf (refP0 V) (refP0 V)) (constant S_ .f32 0x00000000#32)
      reducesTo_S128_S_d0 h_S_)) (ix1 ⟨g.val * 128 + i.val, hp⟩)) = _
  unfold refScore
  refine congrArg₂ Ideal.div ?_ ?_
  · refine (dotP0_apply _ (refP0 V) _).trans (Finset.sum_congr rfl fun k _ => congrArg (· * refP0 V (ix1 k)) ?_)
    refine (layer1_apply V _ k).trans ?_
    dsimp only
    rw [graph_of _ i.isLt]
  · refine (bc0 bcast_S_S4096 _ _).trans (congrArg Ideal.sqrt ?_)
    exact sumsq_apply (refP0 V) reducesTo_S128_S_d0 h_S_

end Cert.Gcn

end

end
-- ==== Proof.RefLayer2.lean ====
/- The reference's first pooling, its second layer and scores, and its result: at graph `g`, the second pooled row of the
   graph. -/
module

public import proofs.«01_k».proof.Proof.RefLayer1

@[expose] public section

noncomputable section

namespace Cert.Gcn

open Idealize.ShloMosaic hiding ix0 ix1 ix2 ix3
open Idealize.ShloMosaic.Routing Idealize.ShloMosaic.ValueIdx Cert.ReferenceIdeal Cert.ReferenceIdeal.Gen Cert.ReferenceIdeal.Value

/-- The second layer's row of graph `g`. -/
def row2 (V : RefVal) (g : ℕ) : Row :=
  refRow2 (refPooled (row1 V g) (fun k => refP0 V (ix1 k))) (fun k c => refW1 V (ix2 k c)) (fun c => refB1 V (ix1 c))
    (fun c => refG1 V (ix1 c)) (fun c => refE1 V (ix1 c))

/-- The rows that the first pooling keeps, scaled. -/
def kept1 (V : RefVal) : FVec Ideal (shape2 2048 128) .f32 :=
  mulf (Host.gather gather_S4096x128_S2048x1_S2048x128_1_0_n_n_0_1_1128 (res_main_v68 V) (broadcastInDim S2048x1 ![0] bcast_S2048_S2048x1_0 (select (cmpi .slt (res_main_v80 V) (broadcastInDim S2048 ![] bcast_S_S2048 (constantI S_ 32 0#32))) (addi (res_main_v80 V) (broadcastInDim S2048 ![] bcast_S_S2048 (constantI S_ 32 4096#32))) (res_main_v80 V)))) (broadcastInDim S2048x128 ![0, 1] bcast_S2048x1_S2048x128_0_1 (broadcastInDim S2048x1 ![0] bcast_S2048_S2048x1_0 (Host.tanh (shapeCast S2048 ((Host.topK S32x64 1 (FloatOps.cmpfTotal .gt) (res_main_v73 V) sliceFits_S32x128_S32x64).1) shapeCasts_S32x64_S2048))))

/-- The kept row `p` is its graph's pooled row. -/
theorem kept1_apply (V : RefVal) (p : Fin 2048) (c : Fin 128) :
    kept1 V (ix2 p c) = refPooled (row1 V (p.val / 64)) (fun k => refP0 V (ix1 k)) c :=
  pool_apply (G := 32) (n := 128) (k := 64) (Q := 4096) (N := 2048) (C := 128) rfl rfl (by norm_num)
    gather_S4096x128_S2048x1_S2048x128_1_0_n_n_0_1_1128 rfl rfl rfl rfl rfl (FloatOps.cmpfTotal (F := Ideal) (φ := .f32) .gt)
    sliceFits_S32x128_S32x64 bcast_S_S32 bcast_S32_S32x1_0 bcast_S32x1_S32x64_0_1 shapeCasts_S32x64_S2048 shapeCasts_S32x64_S2048
    bcast_S_S2048 bcast_S2048_S2048x1_0 bcast_S2048x1_S2048x128_0_1 4096#32 128#32 rfl
    (show FVec Ideal (shape2 4096 128) .f32 from res_main_v68 V) (show FVec Ideal (shape2 32 128) .f32 from res_main_v73 V)
    (row1 V) (fun g => refScore (row1 V g) (fun k => refP0 V (ix1 k))) (layer1_apply V) (score1_apply V)
    (show IVec (shape1 2048) 32 from res_main_v80 V) rfl p c

/-- The words of the second layer's sources. -/
theorem src2_apply (V : RefVal) (e : Fin 131072) :
    (show IVec (shape1 131072) 32 from res_main_v110 V) (ix1 e) = BitVec.ofNat 32 (srcOf 63 129024 e.val) :=
  src_word (G := 32) (n := 64) (m := 63) (A := 129024) (Q := 2048) (E := 131072) rfl rfl rfl rfl _ _ _ e

/-- The words of the second layer's targets. -/
theorem dst2_apply (V : RefVal) (e : Fin 131072) :
    (show IVec (shape1 131072) 32 from res_main_v111 V) (ix1 e) = BitVec.ofNat 32 (dstOf 64 63 129024 e.val) :=
  dst_word (G := 32) (n := 64) (m := 63) (A := 129024) (Q := 2048) (E := 131072) rfl rfl rfl rfl (by norm_num) _ _ _ e

/-- The second layer's inverse roots of degrees. -/
theorem deg2_apply (V : RefVal) (t : Fin 2048) : (show FVec Ideal (shape1 2048) .f32 from res_main_v116 V) (ix1 t) = invRoot 64 :=
  degree_apply (G := 32) (n := 64) (m := 63) (A := 129024) (Q := 2048) (E := 131072) rfl rfl rfl rfl (by norm_num)
    scatter_S2048_S131072x1_S131072_n_0_0_1_wf bcast_S_S2048 bcast_S131072_S131072x1_0 bcast_S_S131072
    (show IVec (shape1 131072) 32 from res_main_v111 V) (dst2_apply V) t

/-- The product of the kept rows with the second layer's weights. -/
def feat2 (V : RefVal) : FVec Ideal (shape2 2048 128) .f32 :=
  Host.dotGeneral dot_S2048x128_S128x128_S2048x128_1_0_0_1_n_n none (kept1 V) (refW1 V)

/-- The product at the `s`-th kept node of graph `g`: the same for all of them. -/
theorem feat2_apply (V : RefVal) (t : Fin 2048) (s : Fin 64) (h : t.val / 64 * 64 + s.val < 2048) (c : Fin 128) :
    feat2 V (ix2 ⟨t.val / 64 * 64 + s.val, h⟩ c)
      = ∑ k : Fin 128, refPooled (row1 V (t.val / 64)) (fun k => refP0 V (ix1 k)) k * refW1 V (ix2 k c) := by
  refine (dotW1_apply (kept1 V) (refW1 V) _ c).trans (Finset.sum_congr rfl fun k _ => congrArg (· * refW1 V (ix2 k c)) ?_)
  rw [kept1_apply]
  dsimp only
  rw [graph_of _ s.isLt]

/-- The messages into node `t` of the second layer. -/
def agg2 (V : RefVal) : FVec Ideal (shape2 2048 128) .f32 :=
  Host.scatterAdd scatter_S2048x128_S131072x1_S131072x128_1_0_0_1 (broadcastInDim S2048x128 ![] bcast_S_S2048x128 (constant S_ .f32 0x00000000#32)) (broadcastInDim S131072x1 ![0] bcast_S131072_S131072x1_0 (res_main_v111 V)) (mulf (Host.gather gather_S2048x128_S131072x1_S131072x128_1_0_n_n_0_1_1128 (feat2 V) (broadcastInDim S131072x1 ![0] bcast_S131072_S131072x1_0 (select (cmpi .slt (res_main_v110 V) (broadcastInDim S131072 ![] bcast_S_S131072 (constantI S_ 32 0#32))) (addi (res_main_v110 V) (broadcastInDim S131072 ![] bcast_S_S131072 (constantI S_ 32 2048#32))) (res_main_v110 V)))) (broadcastInDim S131072x128 ![0, 1] bcast_S131072x1_S131072x128_0_1 (broadcastInDim S131072x1 ![0] bcast_S131072_S131072x1_0 (mulf (Host.gather gather_S2048_S131072x1_S131072_n_0_n_n_0_1_1 (res_main_v116 V) (broadcastInDim S131072x1 ![0] bcast_S131072_S131072x1_0 (select (cmpi .slt (res_main_v110 V) (broadcastInDim S131072 ![] bcast_S_S131072 (constantI S_ 32 0#32))) (addi (res_main_v110 V) (broadcastInDim S131072 ![] bcast_S_S131072 (constantI S_ 32 2048#32))) (res_main_v110 V)))) (Host.gather gather_S2048_S131072x1_S131072_n_0_n_n_0_1_1 (res_main_v116 V) (broadcastInDim S131072x1 ![0] bcast_S131072_S131072x1_0 (select (cmpi .slt (res_main_v111 V) (broadcastInDim S131072 ![] bcast_S_S131072 (constantI S_ 32 0#32))) (addi (res_main_v111 V) (broadcastInDim S131072 ![] bcast_S_S131072 (constantI S_ 32 2048#32))) (res_main_v111 V))))))))

/-- The messages into node `t`: the sum over the kept nodes of its graph. -/
theorem agg2_apply (V : RefVal) (t : Fin 2048) (c : Fin 128) :
    agg2 V (ix2 t c) = ∑ _s : Fin 64, (∑ k : Fin 128, refPooled (row1 V (t.val / 64)) (fun k => refP0 V (ix1 k)) k * refW1 V (ix2 k c))
      * (invRoot 64 * invRoot 64) := by
  refine (messages_apply (G := 32) (n := 64) (m := 63) (A := 129024) (Q := 2048) (E := 131072) (C := 128) rfl rfl rfl rfl (by norm_num)
    scatter_S2048x128_S131072x1_S131072x128_1_0_0_1_wf gather_S2048x128_S131072x1_S131072x128_1_0_n_n_0_1_1128 rfl rfl rfl rfl rfl
    gather_S2048_S131072x1_S131072_n_0_n_n_0_1_1 rfl rfl rfl rfl bcast_S_S2048x128 bcast_S_S131072 bcast_S131072_S131072x1_0
    bcast_S131072x1_S131072x128_0_1 2048#32 (show IVec (shape1 131072) 32 from res_main_v110 V)
    (show IVec (shape1 131072) 32 from res_main_v111 V) (src2_apply V) (dst2_apply V) (feat2 V)
    (show FVec Ideal (shape1 2048) .f32 from res_main_v116 V) (invRoot 64) (deg2_apply V) t c).trans ?_
  exact Finset.sum_congr rfl fun s _ => congrArg (· * (invRoot 64 * invRoot 64)) (feat2_apply V t s _ c)

/-- THE SECOND LAYER at node `t`: the row of the node's graph. -/
theorem layer2_apply (V : RefVal) (t : Fin 2048) (c : Fin 128) :
    (show FVec Ideal (shape2 2048 128) .f32 from res_main_v160 V) (ix2 t c) = row2 V (t.val / 64) c := by
  refine (act_apply (agg2 V) (refB1 V) (refG1 V) (refE1 V) bcast_S_S2048x128 bcast_S128_S1x128_1 bcast_S1x128_S2048x128_0_1 t c).trans ?_
  rw [agg2_apply]
  rfl

/-- THE SECOND LAYER'S SCORES: kept node `i` of graph `g` has the score of its graph's row. -/
theorem score2_apply (V : RefVal) (g : Fin 32) (i : Fin 64) :
    (show FVec Ideal (shape2 32 64) .f32 from res_main_v165 V) (ix2 g i) = refScore (row2 V g.val) (fun k => refP1 V (ix1 k)) := by
  have hp : g.val * 64 + i.val < 2048 := by have := g.isLt; have := i.isLt; omega
  refine (cast12 _ shapeCasts_S2048_S32x64 g i ⟨g.val * 64 + i.val, hp⟩ rfl).trans ?_
  show Ideal.div (Host.dotGeneral dot_S2048x128_S128_S2048_1_0_0_n_n_n none (res_main_v160 V) (refP1 V) (ix1 ⟨g.val * 64 + i.val, hp⟩))
    (broadcastInDim S2048 ![] bcast_S_S2048 (Host.sqrt (Host.reduceAdd (mulf (refP1 V) (refP1 V)) (constant S_ .f32 0x00000000#32)
      reducesTo_S128_S_d0 h_S_)) (ix1 ⟨g.val * 64 + i.val, hp⟩)) = _
  unfold refScore
  refine congrArg₂ Ideal.div ?_ ?_
  · refine (dotP1_apply _ (refP1 V) _).trans (Finset.sum_congr rfl fun k _ => congrArg (· * refP1 V (ix1 k)) ?_)
    refine (layer2_apply V _ k).trans ?_
    dsimp only
    rw [graph_of _ i.isLt]
  · refine (bc0 bcast_S_S2048 _ _).trans (congrArg Ideal.sqrt ?_)
    exact sumsq_apply (refP1 V) reducesTo_S128_S_d0 h_S_

/-- The rows that the second pooling keeps, scaled. -/
def kept2 (V : RefVal) : FVec Ideal (shape2 1024 128) .f32 :=
  mulf (Host.gather gather_S2048x128_S1024x1_S1024x128_1_0_n_n_0_1_1128 (res_main_v160 V) (broadcastInDim S1024x1 ![0] bcast_S1024_S1024x1_0 (select (cmpi .slt (res_main_v172 V) (broadcastInDim S1024 ![] bcast_S_S1024 (constantI S_ 32 0#32))) (addi (res_main_v172 V) (broadcastInDim S1024 ![] bcast_S_S1024 (constantI S_ 32 2048#32))) (res_main_v172 V)))) (broadcastInDim S1024x128 ![0, 1] bcast_S1024x1_S1024x128_0_1 (broadcastInDim S1024x1 ![0] bcast_S1024_S1024x1_0 (Host.tanh (shapeCast S1024 ((Host.topK S32x32 1 (FloatOps.cmpfTotal .gt) (res_main_v165 V) sliceFits_S32x64_S32x32).1) shapeCasts_S32x32_S1024))))

/-- The kept row `p` is its graph's second pooled row. -/
theorem kept2_apply (V : RefVal) (p : Fin 1024) (c : Fin 128) :
    kept2 V (ix2 p c) = refPooled (row2 V (p.val / 32)) (fun k => refP1 V (ix1 k)) c :=
  pool_apply (G := 32) (n := 64) (k := 32) (Q := 2048) (N := 1024) (C := 128) rfl rfl (by norm_num)
    gather_S2048x128_S1024x1_S1024x128_1_0_n_n_0_1_1128 rfl rfl rfl rfl rfl (FloatOps.cmpfTotal (F := Ideal) (φ := .f32) .gt)
    sliceFits_S32x64_S32x32 bcast_S_S32 bcast_S32_S32x1_0 bcast_S32x1_S32x32_0_1 shapeCasts_S32x32_S1024 shapeCasts_S32x32_S1024
    bcast_S_S1024 bcast_S1024_S1024x1_0 bcast_S1024x1_S1024x128_0_1 2048#32 64#32 rfl
    (show FVec Ideal (shape2 2048 128) .f32 from res_main_v160 V) (show FVec Ideal (shape2 32 64) .f32 from res_main_v165 V)
    (row2 V) (fun g => refScore (row2 V g) (fun k => refP1 V (ix1 k))) (layer2_apply V) (score2_apply V)
    (show IVec (shape1 1024) 32 from res_main_v172 V) rfl p c

/-- The reference's result: the maximum over the rows that the second pooling keeps. -/
def refResult (V : RefVal) : FVec Ideal (shape2 32 128) .f32 :=
  Host.reduce FloatOps.maximumf (shapeCast S32x32x128 (kept2 V) shapeCasts_S1024x128_S32x32x128) (constant S_ .f32 0xFF800000#32)
    reducesTo_S32x32x128_S32x128_d1 h_S_

/-- THE REFERENCE'S RESULT at graph `g`: the graph's second pooled row. -/
theorem refResult_apply (V : RefVal) (g : Fin 32) (c : Fin 128) :
    refResult V (ix2 g c) = refPooled (row2 V g.val) (fun k => refP1 V (ix1 k)) c := by
  refine maxpool_apply _ _ _ g c _ fun j => ?_
  have hp : g.val * 32 + j.val < 1024 := by have := g.isLt; have := j.isLt; omega
  refine (cast_groups (kept2 V) shapeCasts_S1024x128_S32x32x128 g j c ⟨g.val * 32 + j.val, hp⟩ rfl).trans ?_
  rw [kept2_apply]
  dsimp only
  rw [graph_of _ j.isLt]

end Cert.Gcn

end

end
-- ==== Proof.KerBody.lean ====
/- The kernel's body, read at a graph and a column: the kernel's row functions of the loaded blocks. -/
module

public import Idealize.ShloMosaic.Lib.Pointwise
public import proofs.«01_k».proof.Proof.Rows
public import proofs.«01_k».proof.Proof.Gen.KernelIdeal.Skeleton

@[expose] public section

noncomputable section

namespace Cert.Gcn

open Idealize.ShloMosaic Cert.KernelIdeal Cert.KernelIdeal.Gen

/-- The kernel's first layer at graph `g`. -/
theorem pay3_apply (x : Vec Ideal S32x128 .f32) (w b γ β : Vec Ideal S1x128 .f32) (g : Fin 32) (c : Fin 128) :
    k0_pay3 x w b γ β (ix2 g c)
      = kerRow1 (fun s => x (ix2 g s)) (fun c => w (ix2 0 c)) (fun c => b (ix2 0 c)) (fun c => γ (ix2 0 c)) (fun c => β (ix2 0 c)) c := by
  pointwise [k0_pay3, k0_pay2]
  have hν : invRoot 128 = Ideal.rsqrt (Ideal.ofBits .f32 0x43000000#32) := by
    unfold invRoot
    rw [ofBits_128, Nat.cast_ofNat]
  unfold kerRow1 kerAct
  rw [hν]
  rfl

/-- The kernel's first layer times its pooling weights, scaled by the inverse of their norm. -/
theorem pay4_apply (x : Vec Ideal S32x128 .f32) (w b γ β p : Vec Ideal S1x128 .f32) (g : Fin 32) (c : Fin 128) :
    k0_pay4 x w b γ β p (ix2 g c)
      = k0_pay3 x w b γ β (ix2 g c) * (p (ix2 0 c) * Ideal.rsqrt (∑ k : Fin 128, p (ix2 0 k) * p (ix2 0 k))) := by
  pointwise [k0_pay4]
  rw [Fin.sum_univ_one]
  rfl

/-- The kernel's result from its first layer `h` and the products `q` that make up the first score. -/
theorem pay1_apply (h q : FVec Ideal S32x128 .f32) (W : Vec Ideal S128x128 .f32) (b γ β p : Vec Ideal S1x128 .f32) (g : Fin 32) (c : Fin 128) :
    k0_pay1 k0_pay2 h q W b γ β p (ix2 g c)
      = kerPooled (kerRow2 (fun k => h (ix2 g k) * Ideal.tanh (∑ k, q (ix2 g k))) (fun k c => W (ix2 k c)) (fun c => b (ix2 0 c)) (fun c => γ (ix2 0 c)) (fun c => β (ix2 0 c))) (fun k => p (ix2 0 k)) c := by
  pointwise [k0_pay1, k0_pay2]
  simp only [Fin.sum_univ_one]
  rfl

/-- The kernel's result from its eleven loaded blocks, the row blocks holding the vectors `b0 … p1`. -/
theorem result_apply (X : Vec Ideal S32x128 .f32) (W0 B0 G0 E0 P0 : Vec Ideal S1x128 .f32) (W1 : Vec Ideal S128x128 .f32)
    (B1 G1 E1 P1 : Vec Ideal S1x128 .f32) (b0 g0 e0 p0 b1 g1 e1 p1 : Row)
    (hb0 : ∀ k, B0 (ix2 0 k) = b0 k) (hg0 : ∀ k, G0 (ix2 0 k) = g0 k) (he0 : ∀ k, E0 (ix2 0 k) = e0 k) (hp0 : ∀ k, P0 (ix2 0 k) = p0 k)
    (hb1 : ∀ k, B1 (ix2 0 k) = b1 k) (hg1 : ∀ k, G1 (ix2 0 k) = g1 k) (he1 : ∀ k, E1 (ix2 0 k) = e1 k) (hp1 : ∀ k, P1 (ix2 0 k) = p1 k)
    (g : Fin 32) (c : Fin 128) :
    k0_pay1 k0_pay2 (k0_pay3 X W0 B0 G0 E0) (k0_pay4 X W0 B0 G0 E0 P0) W1 B1 G1 E1 P1 (ix2 g c)
      = kerPooled (kerRow2 (kerPooled (kerRow1 (fun s => X (ix2 g s)) (fun k => W0 (ix2 0 k)) b0 g0 e0) p0)
          (fun s k => W1 (ix2 s k)) b1 g1 e1) p1 c := by
  rw [pay1_apply]
  simp only [pay4_apply, pay3_apply, hb0, hg0, he0, hp0, hb1, hg1, he1, hp1]
  rfl

end Cert.Gcn

end

end
-- ==== Proof.KerValue.lean ====
/-
  The kernel's result array after its run, as a function of the launched arguments.

  The kernel runs at one point, and at that point every window is its whole array, so what the body loads are the
  arrays themselves, and what it stores is the result array.
-/
module

public import proofs.«01_k».proof.Proof.KerBody
public import proofs.«01_k».proof.Proof.Gen.KernelIdeal.Value
public import Idealize.ShloMosaic.Lib.Pipeline.ValueKit
public import Idealize.ShloMosaic.Lib.Claim

@[expose] public section

noncomputable section

namespace Cert.Gcn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- At the one point every input window is at the start of its array. -/
theorem at_origin : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0] :=
  (by decide +kernel : ∀ t : Fin grid0.N, _)

/-- The data block is the whole data array. -/
theorem block0 : iblk m c 0 t0_0 = V m c main_arg0 := by
  blk_ext! [iblk, at_origin t0_0]

/-- The first weight block is the whole first weight array. -/
theorem block1 : iblk m c 1 t0_0 = V m c main_arg1 := by
  blk_ext! [iblk, at_origin t0_0]

/-- The first bias block is the whole first bias array. -/
theorem block2 : iblk m c 2 t0_0 = V m c main_v0 := by
  blk_ext! [iblk, at_origin t0_0]

/-- The first scale block is the whole first scale array. -/
theorem block3 : iblk m c 3 t0_0 = V m c main_v1 := by
  blk_ext! [iblk, at_origin t0_0]

/-- The first shift block is the whole first shift array. -/
theorem block4 : iblk m c 4 t0_0 = V m c main_v2 := by
  blk_ext! [iblk, at_origin t0_0]

/-- The first pooling weight block is the whole first pooling weight array. -/
theorem block5 : iblk m c 5 t0_0 = V m c main_v3 := by
  blk_ext! [iblk, at_origin t0_0]

/-- The second weight block is the whole second weight array. -/
theorem block6 : iblk m c 6 t0_0 = V m c main_arg6 := by
  blk_ext! [iblk, at_origin t0_0]

/-- The second bias block is the whole second bias array. -/
theorem block7 : iblk m c 7 t0_0 = V m c main_v4 := by
  blk_ext! [iblk, at_origin t0_0]

/-- The second scale block is the whole second scale array. -/
theorem block8 : iblk m c 8 t0_0 = V m c main_v5 := by
  blk_ext! [iblk, at_origin t0_0]

/-- The second shift block is the whole second shift array. -/
theorem block9 : iblk m c 9 t0_0 = V m c main_v6 := by
  blk_ext! [iblk, at_origin t0_0]

/-- The second pooling weight block is the whole second pooling weight array. -/
theorem block10 : iblk m c 10 t0_0 = V m c main_v7 := by
  blk_ext! [iblk, at_origin t0_0]

/-- The first bias row is the first bias argument. -/
theorem row_arg2 (k : Fin 128) : V m c main_v0 (ix2 0 k) = m ((c : Thread nD τ).loc main_arg2) (ix1 k) := by
  entry_read
  pointwise

/-- The first scale row is the first scale argument. -/
theorem row_arg3 (k : Fin 128) : V m c main_v1 (ix2 0 k) = m ((c : Thread nD τ).loc main_arg3) (ix1 k) := by
  entry_read
  pointwise

/-- The first shift row is the first shift argument. -/
theorem row_arg4 (k : Fin 128) : V m c main_v2 (ix2 0 k) = m ((c : Thread nD τ).loc main_arg4) (ix1 k) := by
  entry_read
  pointwise

/-- The first pooling weight row is the first pooling weight argument. -/
theorem row_arg5 (k : Fin 128) : V m c main_v3 (ix2 0 k) = m ((c : Thread nD τ).loc main_arg5) (ix1 k) := by
  entry_read
  pointwise

/-- The second bias row is the second bias argument. -/
theorem row_arg7 (k : Fin 128) : V m c main_v4 (ix2 0 k) = m ((c : Thread nD τ).loc main_arg7) (ix1 k) := by
  entry_read
  pointwise

/-- The second scale row is the second scale argument. -/
theorem row_arg8 (k : Fin 128) : V m c main_v5 (ix2 0 k) = m ((c : Thread nD τ).loc main_arg8) (ix1 k) := by
  entry_read
  pointwise

/-- The second shift row is the second shift argument. -/
theorem row_arg9 (k : Fin 128) : V m c main_v6 (ix2 0 k) = m ((c : Thread nD τ).loc main_arg9) (ix1 k) := by
  entry_read
  pointwise

/-- The second pooling weight row is the second pooling weight argument. -/
theorem row_arg10 (k : Fin 128) : V m c main_v7 (ix2 0 k) = m ((c : Thread nD τ).loc main_arg10) (ix1 k) := by
  entry_read
  pointwise

/-- The kernel's result from the arrays its windows are over. -/
def kerArray : FVec Ideal S32x128 .f32 :=
  k0_pay1 k0_pay2 (k0_pay3 (V m c main_arg0) (V m c main_arg1) (V m c main_v0) (V m c main_v1) (V m c main_v2))
    (k0_pay4 (V m c main_arg0) (V m c main_arg1) (V m c main_v0) (V m c main_v1) (V m c main_v2) (V m c main_v3))
    (V m c main_arg6) (V m c main_v4) (V m c main_v5) (V m c main_v6) (V m c main_v7)

/-- After the run the kernel's result array is `kerArray`. -/
theorem final_eq : (dats m 0 c).arrAt 11 cfg0.N = kerArray m c := by
  refine (dats m 0 c).arrAt_eq_of_after_last 11 t0_0 (by decide +kernel) _ fun j => ?_
  blk_simp
  rw [after0_11, block0, block1, block2, block3, block4, block5, block6, block7, block8, block9, block10]
  unfold out0_11
  frame_out
  rfl

/-- The kernel's result, read at a graph and a column: its row functions of the launched arguments. -/
theorem kerArray_apply (g : Fin 32) (k : Fin 128) :
    kerArray m c (ix2 g k)
      = kerPooled (kerRow2 (kerPooled (kerRow1 (fun s => m ((c : Thread nD τ).loc main_arg0) (ix2 g s))
          (fun k => m ((c : Thread nD τ).loc main_arg1) (ix2 0 k)) (fun k => m ((c : Thread nD τ).loc main_arg2) (ix1 k))
          (fun k => m ((c : Thread nD τ).loc main_arg3) (ix1 k)) (fun k => m ((c : Thread nD τ).loc main_arg4) (ix1 k))) (fun k => m ((c : Thread nD τ).loc main_arg5) (ix1 k)))
          (fun s k => m ((c : Thread nD τ).loc main_arg6) (ix2 s k)) (fun k => m ((c : Thread nD τ).loc main_arg7) (ix1 k))
          (fun k => m ((c : Thread nD τ).loc main_arg8) (ix1 k)) (fun k => m ((c : Thread nD τ).loc main_arg9) (ix1 k)))
          (fun k => m ((c : Thread nD τ).loc main_arg10) (ix1 k)) k := by
  unfold kerArray
  rw [V_main_arg0, V_main_arg1, V_main_arg6]
  exact result_apply _ _ _ _ _ _ _ _ _ _ _ _ _ _ _ _ _ _ _ (row_arg2 m c) (row_arg3 m c) (row_arg4 m c) (row_arg5 m c)
    (row_arg7 m c) (row_arg8 m c) (row_arg9 m c) (row_arg10 m c) g k

end Cert.Gcn

end

end
-- ==== Proof.Precondition.lean ====
/-
  What the precondition `finite_inputs` says of the arguments: every data entry and every entry of the first weight row
  is a real number, and neither vector of pooling weights is all zeros.
-/
module

public import proofs.«01_k».proof.Pre_finite_inputs
public import proofs.«01_k».proof.Proof.Consts
public import Idealize.ShloMosaic.Lib.ReduceAll
public import Idealize.ShloMosaic.Lib.Pointwise

@[expose] public section

noncomputable section

namespace Cert.Gcn

open Idealize.ShloMosaic

/-- A left fold of bits by «or» that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n, f n = 1#1
  | [], _, h => Or.inl h
  | a :: l, init, h => by
    rcases foldl_ori_eq_one f l _ h with h | h
    · change IntOp.ori init (f a) = 1#1 at h
      rcases BitVec.eq_zero_or_eq_one (f a) with e | e
      · rw [e] at h
        rcases BitVec.eq_zero_or_eq_one init with e' | e'
        · rw [e'] at h
          exact absurd h (by decide)
        · exact Or.inl e'
      · exact Or.inr ⟨a, e⟩
    · exact Or.inr h

/-- A `stablehlo.reduce` by «or» from 0 that came out 1 met a 1. -/
theorem reduce_ori_any {s t u : Shape} {axes : List (Fin s.rank)} (x : s.Idx → BitVec 1) (init : u.Idx → BitVec 1)
    (h : s.ReducesTo axes t) (hu : 0 < u.numel) (j : t.Idx) (hi : ∀ i, init i = 0#1)
    (e : Host.reduce IntOp.ori x init h hu j = 1#1) : ∃ i, x i = 1#1 := by
  rw [Host.reduce_eq_foldl] at e
  rcases foldl_ori_eq_one x _ _ e with e | e
  · rw [hi] at e
    exact absurd e (by decide)
  · exact e

/-- An extended real of absolute value less than infinity is a real. -/
theorem real_of_abs_lt {x : EReal} (h : max x (-x) < ⊤) : ∃ r : ℝ, x = r := by
  induction x with
  | bot => exact absurd h (by simp)
  | top => exact absurd h (by simp)
  | coe r => exact ⟨r, rfl⟩

/-- What `stablehlo.compare LT |x| inf` being 1 says of `x`. -/
theorem real_of_bit {x : EReal} (h : Ideal.cmp .olt (max x (-x)) (Ideal.ofBits .f32 0x7F800000#32) = 1#1) : ∃ r : ℝ, x = r := by
  rw [ofBits_inf] at h
  exact real_of_abs_lt ((Ideal.cmp_olt_eq_one _ _).1 h)

/-- What `stablehlo.compare NE x 0` being 1 says of `x`. -/
theorem ne_zero_of_bit {x : EReal} (h : Ideal.cmp .une x (Ideal.ofBits .f32 0x00000000#32) = 1#1) : x ≠ 0 := by
  rintro rfl
  rw [Ideal.ofBits_zero_f32, Ideal.cmp_une] at h
  simp at h

open Cert.Pre_finite_inputs in
/-- THE PRECONDITION, READ: the data and the first weights are reals, and each vector of pooling weights has an entry
    that isn't zero. -/
theorem pre_apply [Facts] (a0 : FVec Ideal S32x128 .f32) (a1 : FVec Ideal S1x128 .f32) (a2 a3 a4 a5 : FVec Ideal S128 .f32)
    (a6 : FVec Ideal S128x128 .f32) (a7 a8 a9 a10 : FVec Ideal S128 .f32) (j : S_.Idx)
    (h : fn a0 a1 a2 a3 a4 a5 a6 a7 a8 a9 a10 j = 1#1) :
    (∀ i, ∃ r : ℝ, a0 i = (r : EReal)) ∧ (∀ i, ∃ r : ℝ, a1 i = (r : EReal)) ∧ (∃ i, a5 i ≠ (0 : EReal)) ∧ ∃ i, a10 i ≠ (0 : EReal) := by
  haveI : Subsingleton S_.Idx := ⟨fun a b => funext fun i => i.elim0⟩
  dsimp only [fn, fn_part1] at h
  obtain ⟨h, h4⟩ := IntOp.andi_eq_one.1 h
  obtain ⟨h, h3⟩ := IntOp.andi_eq_one.1 h
  obtain ⟨h1, h2⟩ := IntOp.andi_eq_one.1 h
  refine ⟨fun i => real_of_bit (Host.reduce_andi_all _ _ _ _ j h1 i), fun i => real_of_bit (Host.reduce_andi_all _ _ _ _ j h2 i), ?_, ?_⟩
  · obtain ⟨i, e⟩ := reduce_ori_any _ _ _ _ j (fun _ => rfl) h3
    exact ⟨i, ne_zero_of_bit e⟩
  · obtain ⟨i, e⟩ := reduce_ori_any _ _ _ _ j (fun _ => rfl) h4
    exact ⟨i, ne_zero_of_bit e⟩

end Cert.Gcn

end

end
-- ==== Proof.Agree.lean ====
/- The reference's result array is the kernel's, when the two programs start from the same arguments and the precondition
   holds. -/
module

public import proofs.«01_k».proof.Proof.RefLayer2
public import proofs.«01_k».proof.Proof.KerValue
public import proofs.«01_k».proof.Proof.Precondition

@[expose] public section

noncomputable section

namespace Cert.Gcn

open Idealize.ShloMosaic Idealize.ShloMosaic.TcCoe
open Cert.KernelIdeal

/-- The two result arrays, element by element: from the same arguments, the data and the first weights real and neither
    vector of pooling weights all zeros, the reference's result is the kernel's. -/
theorem results_agree (m : (ℓ : Loc nD τ sig) → Buf (Elt Ideal) ℓ) (c : Dev nD) (V : RefVal)
    (h0 : refData V = m ((c : Thread nD τ).loc main_arg0))
    (h1 : refW0 V = m ((c : Thread nD τ).loc main_arg1))
    (h2 : refB0 V = m ((c : Thread nD τ).loc main_arg2))
    (h3 : refG0 V = m ((c : Thread nD τ).loc main_arg3))
    (h4 : refE0 V = m ((c : Thread nD τ).loc main_arg4))
    (h5 : refP0 V = m ((c : Thread nD τ).loc main_arg5))
    (h6 : refW1 V = m ((c : Thread nD τ).loc main_arg6))
    (h7 : refB1 V = m ((c : Thread nD τ).loc main_arg7))
    (h8 : refG1 V = m ((c : Thread nD τ).loc main_arg8))
    (h9 : refE1 V = m ((c : Thread nD τ).loc main_arg9))
    (h10 : refP1 V = m ((c : Thread nD τ).loc main_arg10))
    (hx : ∀ i, ∃ r : ℝ, refData V i = (r : EReal)) (hw : ∀ i, ∃ r : ℝ, refW0 V i = (r : EReal))
    (hp0 : ∃ i, refP0 V i ≠ (0 : EReal)) (hp1 : ∃ i, refP1 V i ≠ (0 : EReal)) :
    refResult V = kerArray m c := by
  funext i
  obtain ⟨g, k, rfl⟩ : ∃ (g : Fin 32) (k : Fin 128), i = ix2 g k := ⟨_, _, eq_ix2 i⟩
  have hrow : refDataRow V g.val = fun s => refData V (ix2 g s) := by
    funext s
    unfold refDataRow
    rw [dif_pos g.isLt]
    rfl
  obtain ⟨i0, hi0⟩ := hp0
  obtain ⟨i1, hi1⟩ := hp1
  obtain ⟨k0, rfl⟩ : ∃ k : Fin 128, i0 = ix1 k := ⟨_, eq_ix1 i0⟩
  obtain ⟨k1, rfl⟩ : ∃ k : Fin 128, i1 = ix1 k := ⟨_, eq_ix1 i1⟩
  have hv := value_eq (fun s => refData V (ix2 g s)) (fun k => refW0 V (ix2 0 k)) (fun k => refB0 V (ix1 k)) (fun k => refG0 V (ix1 k))
    (fun k => refE0 V (ix1 k)) (fun k => refP0 V (ix1 k)) (fun s k => refW1 V (ix2 s k)) (fun k => refB1 V (ix1 k))
    (fun k => refG1 V (ix1 k)) (fun k => refE1 V (ix1 k)) (fun k => refP1 V (ix1 k)) (fun s => hx _) (fun k => hw _)
    ⟨k0, hi0⟩ ⟨k1, hi1⟩
  refine (refResult_apply V g k).trans ?_
  unfold row2 row1
  rw [hrow]
  refine (congrFun hv k).trans ?_
  rw [kerArray_apply, h0, h1, h2, h3, h4, h5, h6, h7, h8, h9, h10]

end Cert.Gcn

end

end
-- ==== Proof.lean ====
/- The certificate's proof: `Cert.Proof.claim`, put together from the generated frames of the three programs and from the
   equation of the two result arrays, `Cert.Gcn.results_agree` (Proof/Agree.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged, and every semaphore counter is at zero: it declares none. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's run with its result array named. -/
theorem reference_result (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v186)
          = Cert.Gcn.refResult (StableHlo.launchContents m c) :=
  (θ_run Cert.ReferenceIdeal.defs _ _).mono (fun _ h c => (h c).1) (Cert.ReferenceIdeal.Value.run (F := Ideal) m ρ)

/-- At the extended reals the kernel and the reference end with the same result, under `finite_inputs`. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.Gcn.kerArray m c, ?_, ?_⟩
  · exact (θ_run Cert.KernelIdeal.defs _ _).mono
      (fun r h c => ⟨(h c).1.trans (Cert.Gcn.final_eq m c), (h c).2⟩) (Cert.KernelIdeal.Value.run_blocks m g)
  · refine (θ_run Cert.ReferenceIdeal.defs _ _).mono (fun r h c => ⟨(h.1 c).trans ?_, (h.2 c).2⟩)
      (θ_run_and (reference_result m' g') (Cert.ReferenceIdeal.Value.run m' g'))
    obtain ⟨a0, a1, a2, a3, a4, a5, a6, a7, a8, a9, a10⟩ := hagree c
    obtain ⟨hx, hw, hp0, hp1⟩ := Cert.Gcn.pre_apply _ _ _ _ _ _ _ _ _ _ _ (fun i => i.elim0) (congrFun (hpre c) _)
    exact Cert.Gcn.results_agree m c (StableHlo.launchContents m' c) a0 a1 a2 a3 a4 a5 a6 a7 a8 a9 a10
      (fun i => by rw [show Cert.Gcn.refData (StableHlo.launchContents m' c) = _ from a0]; exact hx i)
      (fun i => by rw [show Cert.Gcn.refW0 (StableHlo.launchContents m' c) = _ from a1]; exact hw i)
      (by rw [show Cert.Gcn.refP0 (StableHlo.launchContents m' c) = _ from a5]; exact hp0)
      (by rw [show Cert.Gcn.refP1 (StableHlo.launchContents m' c) = _ from a10]; exact hp1)

/-- Everything the certificate claims. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
